-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_binary_no_zero_tie [hPre_mask_binary_no_zero_tie : Cert.Pre_mask_binary_no_zero_tie.Facts] (m : (ℓ : Loc Cert.KernelIdeal.nD Cert.KernelIdeal.τ Cert.KernelIdeal.sig) → Buf (Elt Ideal) ℓ) : Prop :=
  ∀ c : Dev Cert.KernelIdeal.nD,
    (Cert.Pre_mask_binary_no_zero_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_binary_no_zero_tie [hPre_mask_binary_no_zero_tie : Cert.Pre_mask_binary_no_zero_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_binary_no_zero_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_binary_no_zero_tie [hKernelIdeal : Cert.KernelIdeal.Facts] [hPre_mask_binary_no_zero_tie : Cert.Pre_mask_binary_no_zero_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_binary_no_zero_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_binary_no_zero_tie [hReferenceIdeal : Cert.ReferenceIdeal.Facts] [hPre_mask_binary_no_zero_tie : Cert.Pre_mask_binary_no_zero_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_binary_no_zero_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mask_binary_no_zero_tie [hKernelIdeal : Cert.KernelIdeal.Facts] [hReferenceIdeal : Cert.ReferenceIdeal.Facts] [hPre_mask_binary_no_zero_tie : Cert.Pre_mask_binary_no_zero_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_binary_no_zero_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v33_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mask_binary_no_zero_tie : Cert.Pre_mask_binary_no_zero_tie.Facts),
    quiescent_Kernel (hKernel := hKernel)
    ∧ quiescent_KernelIdeal (hKernelIdeal := hKernelIdeal)
    ∧ quiescent_KernelIdeal_pre_mask_binary_no_zero_tie (hKernelIdeal := hKernelIdeal) (hPre_mask_binary_no_zero_tie := hPre_mask_binary_no_zero_tie)
    ∧ quiescent_ReferenceIdeal (hReferenceIdeal := hReferenceIdeal)
    ∧ quiescent_ReferenceIdeal_pre_mask_binary_no_zero_tie (hReferenceIdeal := hReferenceIdeal) (hPre_mask_binary_no_zero_tie := hPre_mask_binary_no_zero_tie)
    ∧ preserves_Kernel_KernelIdeal
    ∧ algebraic_KernelIdeal_ReferenceIdeal_pre_mask_binary_no_zero_tie (hKernelIdeal := hKernelIdeal) (hReferenceIdeal := hReferenceIdeal) (hPre_mask_binary_no_zero_tie := hPre_mask_binary_no_zero_tie)
-- ==== Pre_mask_binary_no_zero_tie.lean ====
abbrev S4x2048x768 : Shape := ⟨3, ![4, 2048, 768]⟩
abbrev S4x2048 : Shape := ⟨2, ![4, 2048]⟩
abbrev S256x768x8 : Shape := ⟨3, ![256, 768, 8]⟩
abbrev S1x1x8 : Shape := ⟨3, ![1, 1, 8]⟩
abbrev S_ : Shape := ⟨0, ![]⟩
abbrev S4x2048x1 : Shape := ⟨3, ![4, 2048, 1]⟩
abbrev S256x8 : Shape := ⟨2, ![256, 8]⟩
abbrev S256x1x8 : Shape := ⟨3, ![256, 1, 8]⟩
abbrev S256x8x4x2048 : Shape := ⟨4, ![256, 8, 4, 2048]⟩
abbrev S4x256x2048x8 : Shape := ⟨4, ![4, 256, 2048, 8]⟩
abbrev S4x1x2048x1 : Shape := ⟨4, ![4, 1, 2048, 1]⟩
abbrev S4x256x8 : Shape := ⟨3, ![4, 256, 8]⟩
abbrev S4 : Shape := ⟨1, ![4]⟩
abbrev S4x1x1 : Shape := ⟨3, ![4, 1, 1]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  reducesTo_S256x768x8_S256x8_d1 : S256x768x8.ReducesTo [1] S256x8
  bcast_S256x8_S256x1x8_0_2 : S256x8.BroadcastsInDim S256x1x8 (![0, 2] : Fin 2 → Fin S256x1x8.rank)
  bcast_S_S256x1x8 : S_.BroadcastsInDim S256x1x8 (![] : Fin 0 → Fin S256x1x8.rank)
  bcast_S256x1x8_S256x768x8_0_1_2 : S256x1x8.BroadcastsInDim S256x768x8 (![0, 1, 2] : Fin 3 → Fin S256x768x8.rank)
  transposes_S256x8x4x2048_S4x256x2048x8_2_0_3_1 : S256x8x4x2048.Transposes [2, 0, 3, 1] S4x256x2048x8
  bcast_S4x2048_S4x1x2048x1_0_2 : S4x2048.BroadcastsInDim S4x1x2048x1 (![0, 2] : Fin 2 → Fin S4x1x2048x1.rank)
  bcast_S4x1x2048x1_S4x256x2048x8_0_1_2_3 : S4x1x2048x1.BroadcastsInDim S4x256x2048x8 (![0, 1, 2, 3] : Fin 4 → Fin S4x256x2048x8.rank)
  bcast_S_S4x1x2048x1 : S_.BroadcastsInDim S4x1x2048x1 (![] : Fin 0 → Fin S4x1x2048x1.rank)
  reducesTo_S4x256x2048x8_S4x256x8_d2 : S4x256x2048x8.ReducesTo [2] S4x256x8
  bcast_S_S4x2048 : S_.BroadcastsInDim S4x2048 (![] : Fin 0 → Fin S4x2048.rank)
  reducesTo_S4x2048_S4_d1 : S4x2048.ReducesTo [1] S4
  bcast_S4_S4x1x1_0 : S4.BroadcastsInDim S4x1x1 (![0] : Fin 1 → Fin S4x1x1.rank)
  bcast_S_S4x256x8 : S_.BroadcastsInDim S4x256x8 (![] : Fin 0 → Fin S4x256x8.rank)
  bcast_S4x1x1_S4x256x8_0_1_2 : S4x1x1.BroadcastsInDim S4x256x8 (![0, 1, 2] : Fin 3 → Fin S4x256x8.rank)
  reducesTo_S4x2048_S_d0_1 : S4x2048.ReducesTo [0, 1] S_
  reducesTo_S4x256x8_S_d0_1_2 : S4x256x8.ReducesTo [0, 1, 2] S_
  dot_S256x768x8_S4x2048x768_S256x8x4x2048_1_2_02_01_n_n_wf : DotDims.WF S256x768x8 S4x2048x768 S256x8x4x2048 [1] [2] [0, 2] [0, 1] [] []

variable [Facts]

def dot_S256x768x8_S4x2048x768_S256x8x4x2048_1_2_02_01_n_n : DotDims S256x768x8 S4x2048x768 S256x8x4x2048 where
  lhsContracting := [1]
  rhsContracting := [2]
  lhsNonContracting := [0, 2]
  rhsNonContracting := [0, 1]
  lhsBatch := []
  rhsBatch := []
  wf := dot_S256x768x8_S4x2048x768_S256x8x4x2048_1_2_02_01_n_n_wf
def fn_norm {F : FTy → Type} [FloatOps F] (arg0 : FVec F S4x2048x768 .f32) : FVec F S4x2048x1 .f32 :=
  let v0 : FVec F S4x2048x768 .f32 := mulf arg0 arg0
  let cst : FVec F S_ .f32 := constant S_ .f32 0x00000000#32
  let v1 : FVec F S4x2048 .f32 := (fun x v => Host.reduceAdd x v reducesTo_S4x2048x768_S4x2048_d2 h_S_) v0 cst
  let v2 : FVec F S4x2048x1 .f32 := broadcastInDim S4x2048x1 ![0, 1] bcast_S4x2048_S4x2048x1_0_1 v1
  let v3 : FVec F S4x2048x1 .f32 := Host.sqrt v2
  v3

def fn_norm_0 {F : FTy → Type} [FloatOps F] (arg0 : FVec F S256x768x8 .f32) : FVec F S256x1x8 .f32 :=
  let v0 : FVec F S256x768x8 .f32 := mulf arg0 arg0
  let cst : FVec F S_ .f32 := constant S_ .f32 0x00000000#32
  let v1 : FVec F S256x8 .f32 := (fun x v => Host.reduceAdd x v reducesTo_S256x768x8_S256x8_d1 h_S_) v0 cst
  let v2 : FVec F S256x1x8 .f32 := broadcastInDim S256x1x8 ![0, 2] bcast_S256x8_S256x1x8_0_2 v1
  let v3 : FVec F S256x1x8 .f32 := Host.sqrt v2
  v3

def fn_part2 {F : FTy → Type} [FloatOps F] (main_v34 : IVec S4x256x8 1) (main_v35 : IVec S_ 1) (main_c_9 : IVec S_ 1) : IVec S_ 1 :=
  let main_v36 : IVec S_ 1 := (fun x v => Host.reduce IntOp.andi x v reducesTo_S4x256x8_S_d0_1_2 h_S_) main_v34 main_c_9
  let main_v37 : IVec S_ 1 := andi main_v35 main_v36
  main_v37

def fn_part1 {F : FTy → Type} [FloatOps F] (main_arg1 : FVec F S4x2048 .f32) (main_v14 : FVec F S4x256x2048x8 .f32) (main_v19 : FVec F S4x256x2048x8 .f32) : IVec S_ 1 :=
  let main_v20 : FVec F S4x256x2048x8 .f32 := addf main_v14 main_v19
  let main_cst_3 : FVec F S_ .f32 := constant S_ .f32 0xFF800000#32
  let main_v21 : FVec F S4x256x8 .f32 := (fun x v => Host.reduce FloatOps.maximumf x v reducesTo_S4x256x2048x8_S4x256x8_d2 h_S_) main_v20 main_cst_3
  let main_cst_4 : FVec F S_ .f32 := constant S_ .f32 0x00000000#32
  let main_v22 : FVec F S4x2048 .f32 := broadcastInDim S4x2048 ![] bcast_S_S4x2048 main_cst_4
  let main_v23 : IVec S4x2048 1 := cmpf .oeq main_arg1 main_v22
  let main_cst_5 : FVec F S_ .f32 := constant S_ .f32 0x3F800000#32
  let main_v24 : FVec F S4x2048 .f32 := broadcastInDim S4x2048 ![] bcast_S_S4x2048 main_cst_5
  let main_v25 : IVec S4x2048 1 := cmpf .oeq main_arg1 main_v24
  let main_v26 : IVec S4x2048 1 := ori main_v23 main_v25
  let main_cst_6 : FVec F S_ .f32 := constant S_ .f32 0x3F800000#32
  let main_v27 : FVec F S4x2048 .f32 := broadcastInDim S4x2048 ![] bcast_S_S4x2048 main_cst_6
  let main_v28 : IVec S4x2048 1 := cmpf .oeq main_arg1 main_v27
  let main_c : IVec S_ 1 := constantI S_ 1 1#1
  let main_v29 : IVec S4 1 := (fun x v => Host.reduce IntOp.andi x v reducesTo_S4x2048_S4_d1 h_S_) main_v28 main_c
  let main_v30 : IVec S4x1x1 1 := broadcastInDim S4x1x1 ![0] bcast_S4_S4x1x1_0 main_v29
  let main_cst_7 : FVec F S_ .f32 := constant S_ .f32 0x00000000#32
  let main_v31 : FVec F S4x256x8 .f32 := broadcastInDim S4x256x8 ![] bcast_S_S4x256x8 main_cst_7
  let main_v32 : IVec S4x256x8 1 := cmpf .une main_v21 main_v31
  let main_v33 : IVec S4x256x8 1 := broadcastInDim S4x256x8 ![0, 1, 2] bcast_S4x1x1_S4x256x8_0_1_2 main_v30
  let main_v34 : IVec S4x256x8 1 := ori main_v33 main_v32
  let main_c_8 : IVec S_ 1 := constantI S_ 1 1#1
  let main_v35 : IVec S_ 1 := (fun x v => Host.reduce IntOp.andi x v reducesTo_S4x2048_S_d0_1 h_S_) main_v26 main_c_8
  let main_c_9 : IVec S_ 1 := constantI S_ 1 1#1
  fn_part2 (F := F) main_v34 main_v35 main_c_9

def fn {F : FTy → Type} [FloatOps F] (main_arg0 : FVec F S4x2048x768 .f32) (main_arg1 : FVec F S4x2048 .f32) (main_arg2 : FVec F S256x768x8 .f32) (main_arg3 : FVec F S1x1x8 .f32) : IVec S_ 1 :=
  let main_v0 : FVec F S4x2048x1 .f32 := fn_norm (F := F) main_arg0
  let main_cst : FVec F S_ .f32 := constant S_ .f32 0x2B8CBCCC#32
  let main_v1 : FVec F S4x2048x1 .f32 := broadcastInDim S4x2048x1 ![] bcast_S_S4x2048x1 main_cst
  let main_v2 : FVec F S4x2048x1 .f32 := maximumf main_v0 main_v1
  let main_v3 : FVec F S4x2048x768 .f32 := broadcastInDim S4x2048x768 ![0, 1, 2] bcast_S4x2048x1_S4x2048x768_0_1_2 main_v2
  let main_v4 : FVec F S4x2048x768 .f32 := Host.divf main_arg0 main_v3
  let main_v5 : FVec F S256x1x8 .f32 := fn_norm_0 (F := F) main_arg2
  let main_cst_0 : FVec F S_ .f32 := constant S_ .f32 0x2B8CBCCC#32
  let main_v6 : FVec F S256x1x8 .f32 := broadcastInDim S256x1x8 ![] bcast_S_S256x1x8 main_cst_0
  let main_v7 : FVec F S256x1x8 .f32 := maximumf main_v5 main_v6
  let main_v8 : FVec F S256x768x8 .f32 := broadcastInDim S256x768x8 ![0, 1, 2] bcast_S256x1x8_S256x768x8_0_1_2 main_v7
  let main_v9 : FVec F S256x768x8 .f32 := Host.divf main_arg2 main_v8
  let main_v10 : FVec F S256x8x4x2048 .f32 := (fun l r => Host.dotGeneral dot_S256x768x8_S4x2048x768_S256x8x4x2048_1_2_02_01_n_n none l r) main_v9 main_v4
  let main_v11 : FVec F S4x256x2048x8 .f32 := (transpose S4x256x2048x8 [2, 0, 3, 1] · transposes_S256x8x4x2048_S4x256x2048x8_2_0_3_1) main_v10
  let main_v12 : FVec F S4x1x2048x1 .f32 := broadcastInDim S4x1x2048x1 ![0, 2] bcast_S4x2048_S4x1x2048x1_0_2 main_arg1
  let main_v13 : FVec F S4x256x2048x8 .f32 := broadcastInDim S4x256x2048x8 ![0, 1, 2, 3] bcast_S4x1x2048x1_S4x256x2048x8_0_1_2_3 main_v12
  let main_v14 : FVec F S4x256x2048x8 .f32 := mulf main_v11 main_v13
  let main_cst_1 : FVec F S_ .f32 := constant S_ .f32 0x3F800000#32
  let main_v15 : FVec F S4x1x2048x1 .f32 := broadcastInDim S4x1x2048x1 ![] bcast_S_S4x1x2048x1 main_cst_1
  let main_v16 : FVec F S4x1x2048x1 .f32 := subf main_v15 main_v12
  let main_cst_2 : FVec F S_ .f32 := constant S_ .f32 0xC7C35000#32
  let main_v17 : FVec F S4x1x2048x1 .f32 := broadcastInDim S4x1x2048x1 ![] bcast_S_S4x1x2048x1 main_cst_2
  let main_v18 : FVec F S4x1x2048x1 .f32 := mulf main_v16 main_v17
  let main_v19 : FVec F S4x256x2048x8 .f32 := broadcastInDim S4x256x2048x8 ![0, 1, 2, 3] bcast_S4x1x2048x1_S4x256x2048x8_0_1_2_3 main_v18
  fn_part1 (F := F) main_arg1 main_v14 main_v19
-- ==== Kernel.lean ====
abbrev S4x2048x768 : Shape := ⟨3, ![4, 2048, 768]⟩
abbrev S4x2048 : Shape := ⟨2, ![4, 2048]⟩
abbrev S256x768x8 : Shape := ⟨3, ![256, 768, 8]⟩
abbrev S1x1x8 : Shape := ⟨3, ![1, 1, 8]⟩
abbrev S8x256x768 : Shape := ⟨3, ![8, 256, 768]⟩
abbrev S4x1x2048 : Shape := ⟨3, ![4, 1, 2048]⟩
abbrev S1x8 : Shape := ⟨2, ![1, 8]⟩
abbrev S4x2x128x1 : Shape := ⟨4, ![4, 2, 128, 1]⟩
abbrev S4x2x128x8 : Shape := ⟨4, ![4, 2, 128, 8]⟩
abbrev S1x2048x768 : Shape := ⟨3, ![1, 2048, 768]⟩
abbrev S1x1x2048 : Shape := ⟨3, ![1, 1, 2048]⟩
abbrev S8x128x768 : Shape := ⟨3, ![8, 128, 768]⟩
abbrev S1x1x128x1 : Shape := ⟨4, ![1, 1, 128, 1]⟩
abbrev S1x1x128x8 : Shape := ⟨4, ![1, 1, 128, 8]⟩
abbrev S768x2048 : Shape := ⟨2, ![768, 2048]⟩
abbrev S2048x768 : Shape := ⟨2, ![2048, 768]⟩
abbrev S2048 : Shape := ⟨1, ![2048]⟩
abbrev S2048x1 : Shape := ⟨2, ![2048, 1]⟩
abbrev S1024x768 : Shape := ⟨2, ![1024, 768]⟩
abbrev S1024 : Shape := ⟨1, ![1024]⟩
abbrev S1024x1 : Shape := ⟨2, ![1024, 1]⟩
abbrev S1024x2048 : Shape := ⟨2, ![1024, 2048]⟩
abbrev S1x2048 : Shape := ⟨2, ![1, 2048]⟩
abbrev S8x128x2048 : Shape := ⟨3, ![8, 128, 2048]⟩
abbrev S8x128 : Shape := ⟨2, ![8, 128]⟩
abbrev S128x2048 : Shape := ⟨2, ![128, 2048]⟩
abbrev S128x8 : Shape := ⟨2, ![128, 8]⟩
abbrev S128 : Shape := ⟨1, ![128]⟩
abbrev S1x128 : Shape := ⟨2, ![1, 128]⟩
abbrev S8x128x1 : Shape := ⟨3, ![8, 128, 1]⟩
abbrev S128x1 : Shape := ⟨2, ![128, 1]⟩
abbrev S1x128x2048 : Shape := ⟨3, ![1, 128, 2048]⟩
abbrev S1 : Shape := ⟨1, ![1]⟩
abbrev S1x1 : Shape := ⟨2, ![1, 1]⟩
abbrev S4x256 : Shape := ⟨2, ![4, 256]⟩
abbrev S4x256x8 : Shape := ⟨3, ![4, 256, 8]⟩

abbrev nBuf : Space → Nat
  | .hbm => 13
  | .vmem => 15
  | .smem => 0
  | _ => 0

abbrev bufTy : (tb : Table) → Fin (tcTables nBuf tb) → BufTy
  | .hbm, ⟨0, _⟩ => ⟨S4x2048x768, .f32⟩
  | .hbm, ⟨1, _⟩ => ⟨S4x2048, .f32⟩
  | .hbm, ⟨2, _⟩ => ⟨S256x768x8, .f32⟩
  | .hbm, ⟨3, _⟩ => ⟨S1x1x8, .f32⟩
  | .hbm, ⟨4, _⟩ => ⟨S8x256x768, .f32⟩
  | .hbm, ⟨5, _⟩ => ⟨S4x1x2048, .f32⟩
  | .hbm, ⟨6, _⟩ => ⟨S1x8, .f32⟩
  | .hbm, ⟨7, _⟩ => ⟨S4x2x128x1, .f32⟩
  | .hbm, ⟨8, _⟩ => ⟨S4x2x128x1, .f32⟩
  | .hbm, ⟨9, _⟩ => ⟨S4x2x128x8, .f32⟩
  | .hbm, ⟨10, _⟩ => ⟨S4x256, .f32⟩
  | .hbm, ⟨11, _⟩ => ⟨S4x256, .f32⟩
  | .hbm, ⟨12, _⟩ => ⟨S4x256x8, .f32⟩
  | .local _ .vmem, ⟨0, _⟩ => ⟨S1x2048x768, .f32⟩
  | .local _ .vmem, ⟨1, _⟩ => ⟨S1x2048x768, .f32⟩
  | .local _ .vmem, ⟨2, _⟩ => ⟨S1x1x2048, .f32⟩
  | .local _ .vmem, ⟨3, _⟩ => ⟨S1x1x2048, .f32⟩
  | .local _ .vmem, ⟨4, _⟩ => ⟨S8x128x768, .f32⟩
  | .local _ .vmem, ⟨5, _⟩ => ⟨S8x128x768, .f32⟩
  | .local _ .vmem, ⟨6, _⟩ => ⟨S1x8, .f32⟩
  | .local _ .vmem, ⟨7, _⟩ => ⟨S1x1x128x1, .f32⟩
  | .local _ .vmem, ⟨8, _⟩ => ⟨S1x1x128x1, .f32⟩
  | .local _ .vmem, ⟨9, _⟩ => ⟨S1x1x128x1, .f32⟩
  | .local _ .vmem, ⟨10, _⟩ => ⟨S1x1x128x1, .f32⟩
  | .local _ .vmem, ⟨11, _⟩ => ⟨S1x1x128x8, .f32⟩
  | .local _ .vmem, ⟨12, _⟩ => ⟨S1x1x128x8, .f32⟩
  | .local _ .vmem, ⟨13, _⟩ => ⟨S768x2048, .f32⟩
  | .local _ .vmem, ⟨14, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg1 : BitVec 32 := BitVec.ofNat 32 (i 1).val
  let c8_i32_191 : BitVec 32 := 8#32
  let v916 : BitVec 32 := Scalar.muli arg1 c8_i32_191
  let c128_i32_192 : BitVec 32 := 128#32
  let v917 : BitVec 32 := Scalar.muli v916 c128_i32_192
  let v918 : Index := Scalar.indexCast v917
  let c0_193 : Index := 0#32
  ![v918.toNat, 0]
def k0_off2 (i : grid0.Coords) : Fin 2 → Nat :=
  let arg1 : BitVec 32 := BitVec.ofNat 32 (i 1).val
  let c8_i32 : BitVec 32 := 8#32
  let v6 : BitVec 32 := Scalar.muli arg1 c8_i32
  let c128_i32 : BitVec 32 := 128#32
  let v7 : BitVec 32 := Scalar.muli v6 c128_i32
  let v8 : Index := Scalar.indexCast v7
  let c0 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x2048x768 : Shape := ⟨3, ![4, 2048, 768]⟩
abbrev S4x2048 : Shape := ⟨2, ![4, 2048]⟩
abbrev S256x768x8 : Shape := ⟨3, ![256, 768, 8]⟩
abbrev S1x1x8 : Shape := ⟨3, ![1, 1, 8]⟩
abbrev S_ : Shape := ⟨0, ![]⟩
abbrev S4x2048x1 : Shape := ⟨3, ![4, 2048, 1]⟩
abbrev S256x8 : Shape := ⟨2, ![256, 8]⟩
abbrev S256x1x8 : Shape := ⟨3, ![256, 1, 8]⟩
abbrev S256x8x4x2048 : Shape := ⟨4, ![256, 8, 4, 2048]⟩
abbrev S4x256x2048x8 : Shape := ⟨4, ![4, 256, 2048, 8]⟩
abbrev S4x1x2048x1 : Shape := ⟨4, ![4, 1, 2048, 1]⟩
abbrev S2048 : Shape := ⟨1, ![2048]⟩
abbrev S1x1x2048 : Shape := ⟨3, ![1, 1, 2048]⟩
abbrev S8 : Shape := ⟨1, ![8]⟩
abbrev S4x256x2048 : Shape := ⟨3, ![4, 256, 2048]⟩
abbrev S4x256x8 : Shape := ⟨3, ![4, 256, 8]⟩
abbrev S4x256x2048x1 : Shape := ⟨4, ![4, 256, 2048, 1]⟩
abbrev S4x256x8x2048 : Shape := ⟨4, ![4, 256, 8, 2048]⟩
abbrev S4x256x8x1 : Shape := ⟨4, ![4, 256, 8, 1]⟩
abbrev S4x256 : Shape := ⟨2, ![4, 256]⟩
abbrev S4x256x1 : Shape := ⟨3, ![4, 256, 1]⟩
abbrev S4x256x1x1 : Shape := ⟨4, ![4, 256, 1, 1]⟩
abbrev S1 : Shape := ⟨1, ![1]⟩
abbrev S1x1x1x1 : Shape := ⟨4, ![1, 1, 1, 1]⟩
abbrev S4x256x1x8 : Shape := ⟨4, ![4, 256, 1, 8]⟩
abbrev S1x1 : Shape := ⟨2, ![1, 1]⟩
abbrev S1x1x1 : Shape := ⟨3, ![1, 1, 1]⟩

abbrev nBuf : Space → Nat
  | .hbm => 218
  | .vmem => 0
  | .smem => 0
  | _ => 0

abbrev hbmTy0_0 (i : Nat) : BufTy := match i % 128 with
  | 0 => ⟨S4x2048x768, .f32⟩
  | 1 => ⟨S4x2048, .f32⟩
  | 2 => ⟨S256x768x8, .f32⟩
  | 3 => ⟨S1x1x8, .f32⟩
  | 4 => ⟨S4x2048x768, .f32⟩
  | 5 => ⟨S_, .f32⟩
  | 6 => ⟨S4x2048, .f32⟩
  | 7 => ⟨S4x2048x1, .f32⟩
  | 8 => ⟨S4x2048x1, .f32⟩
  | 9 => ⟨S_, .f32⟩
  | 10 => ⟨S4x2048x1, .f32⟩
  | 11 => ⟨S4x2048x1, .f32⟩
  | 12 => ⟨S4x2048x768, .f32⟩
  | 13 => ⟨S4x2048x768, .f32⟩
  | 14 => ⟨S256x768x8, .f32⟩
  | 15 => ⟨S_, .f32⟩
  | 16 => ⟨S256x8, .f32⟩
  | 17 => ⟨S256x1x8, .f32⟩
  | 18 => ⟨S256x1x8, .f32⟩
  | 19 => ⟨S_, .f32⟩
  | 20 => ⟨S256x1x8, .f32⟩
  | 21 => ⟨S256x1x8, .f32⟩
  | 22 => ⟨S256x768x8, .f32⟩
  | 23 => ⟨S256x768x8, .f32⟩
  | 24 => ⟨S256x8x4x2048, .f32⟩
  | 25 => ⟨S4x256x2048x8, .f32⟩
  | 26 => ⟨S4x1x2048x1, .f32⟩
  | 27 => ⟨S4x256x2048x8, .f32⟩
  | 28 => ⟨S4x256x2048x8, .f32⟩
  | 29 => ⟨S_, .f32⟩
  | 30 => ⟨S4x1x2048x1, .f32⟩
  | 31 => ⟨S4x1x2048x1, .f32⟩
  | 32 => ⟨S_, .f32⟩
  | 33 => ⟨S4x1x2048x1, .f32⟩
  | 34 => ⟨S4x1x2048x1, .f32⟩
  | 35 => ⟨S4x256x2048x8, .f32⟩
  | 36 => ⟨S4x256x2048x8, .f32⟩
  | 37 => ⟨S2048, .i32⟩
  | 38 => ⟨S1x1x2048, .i32⟩
  | 39 => ⟨S8, .i32⟩
  | 40 => ⟨S1x1x8, .i32⟩
  | 41 => ⟨S_, .f32⟩
  | 42 => ⟨S4x256x2048x8, .f32⟩
  | 43 => ⟨S_, .f32⟩
  | 44 => ⟨S4x256x2048, .f32⟩
  | 45 => ⟨S_, .f32⟩
  | 46 => ⟨S4x256x8, .f32⟩
  | 47 => ⟨S_, .f32⟩
  | 48 => ⟨S4x256x2048, .f32⟩
  | 49 => ⟨S_, .i32⟩
  | 50 => ⟨S4x256x8, .i32⟩
  | 51 => ⟨S_, .f32⟩
  | 52 => ⟨S4x256x8, .f32⟩
  | 53 => ⟨S_, .f32⟩
  | 54 => ⟨S4x256x8, .f32⟩
  | 55 => ⟨S_, .i32⟩
  | 56 => ⟨S_, .i32⟩
  | 57 => ⟨S4x256x2048x8, .f32⟩
  | 58 => ⟨S1x1x2048, .i32⟩
  | 59 => ⟨S1x1x8, .i32⟩
  | 60 => ⟨S_, .i32⟩
  | 61 => ⟨S_, .i32⟩
  | 62 => ⟨S4x256x2048x8, .f32⟩
  | 63 => ⟨S4x256x2048, .f32⟩
  | 64 => ⟨S4x256x8, .f32⟩
  | 65 => ⟨S4x256x2048, .f32⟩
  | 66 => ⟨S4x256x8, .i32⟩
  | 67 => ⟨S4x256x8, .f32⟩
  | 68 => ⟨S4x256x8, .f32⟩
  | 69 => ⟨S_, .i32⟩
  | 70 => ⟨S_, .i1⟩
  | 71 => ⟨S_, .i32⟩
  | 72 => ⟨S_, .i32⟩
  | 73 => ⟨S4x256x2048x1, .f32⟩
  | 74 => ⟨S4x256x2048x8, .f32⟩
  | 75 => ⟨S4x256x2048x8, .f32⟩
  | 76 => ⟨S_, .f32⟩
  | 77 => ⟨S4x256x2048x8, .f32⟩
  | 78 => ⟨S4x256x2048x8, .f32⟩
  | 79 => ⟨S_, .f32⟩
  | 80 => ⟨S4x256x2048x8, .f32⟩
  | 81 => ⟨S4x256x2048x8, .f32⟩
  | 82 => ⟨S4x256x2048x8, .f32⟩
  | 83 => ⟨S_, .f32⟩
  | 84 => ⟨S4x256x8, .f32⟩
  | 85 => ⟨S4x256x8x2048, .f32⟩
  | 86 => ⟨S4x256x8x1, .f32⟩
  | 87 => ⟨S4x256x8x1, .i32⟩
  | 88 => ⟨S4x256x8, .i32⟩
  | 89 => ⟨S_, .f32⟩
  | 90 => ⟨S4x256, .f32⟩
  | 91 => ⟨S4x256x1, .f32⟩
  | 92 => ⟨S4x256x1, .i32⟩
  | 93 => ⟨S4x256, .i32⟩
  | 94 => ⟨S4x256x1, .i32⟩
  | 95 => ⟨S_, .i32⟩
  | 96 => ⟨S4x256x1, .i32⟩
  | 97 => ⟨S4x256x1, .i1⟩
  | 98 => ⟨S_, .i32⟩
  | 99 => ⟨S4x256x1, .i32⟩
  | 100 => ⟨S4x256x1, .i32⟩
  | 101 => ⟨S4x256x1, .i32⟩
  | 102 => ⟨S4x256x1x1, .i32⟩
  | 103 => ⟨S1, .i32⟩
  | 104 => ⟨S_, .i32⟩
  | 105 => ⟨S4x256x1x1, .i32⟩
  | 106 => ⟨S4x256x1x1, .i1⟩
  | 107 => ⟨S1x1x1x1, .i32⟩
  | 108 => ⟨S4x256x1x1, .i32⟩
  | 109 => ⟨S4x256x1x1, .i1⟩
  | 110 => ⟨S4x256x1x1, .i1⟩
  | 111 => ⟨S_, .i1⟩
  | 112 => ⟨S4x256x1, .i1⟩
  | 113 => ⟨S4x256x1, .i32⟩
  | 114 => ⟨S_, .i32⟩
  | 115 => ⟨S4x256x1, .i32⟩
  | 116 => ⟨S4x256x1, .i32⟩
  | 117 => ⟨S4x256, .i32⟩
  | 118 => ⟨S4x256x1, .i32⟩
  | 119 => ⟨S4x256x2048, .i32⟩
  | 120 => ⟨S4x256x2048, .i32⟩
  | 121 => ⟨S4x256x2048, .i32⟩
  | 122 => ⟨S4x256x2048, .i32⟩
  | 123 => ⟨S_, .i32⟩
  | 124 => ⟨S4x256x2048, .i32⟩
  | 125 => ⟨S4x256x2048, .i1⟩
  | 126 => ⟨S4x256x2048, .f32⟩
  | 127 => ⟨S4x256x1, .i32⟩
  | _ => ⟨S4x2048x768, .f32⟩

abbrev hbmTy0_1 (i : Nat) : BufTy := match i % 128 with
  | 0 => ⟨S4x256x2048, .i32⟩
  | 1 => ⟨S4x256x2048, .i32⟩
  | 2 => ⟨S4x256x2048, .i1⟩
  | 3 => ⟨S4x256x2048, .f32⟩
  | 4 => ⟨S_, .i32⟩
  | 5 => ⟨S_, .i1⟩
  | 6 => ⟨S4x256x2048, .f32⟩
  | 7 => ⟨S4x256x2048, .f32⟩
  | 8 => ⟨S4x256x1, .i32⟩
  | 9 => ⟨S1x1x2048, .i32⟩
  | 10 => ⟨S4x256x2048, .i32⟩
  | 11 => ⟨S4x256x2048, .i32⟩
  | 12 => ⟨S4x256x2048, .i1⟩
  | 13 => ⟨S4x256x2048, .f32⟩
  | 14 => ⟨S_, .f32⟩
  | 15 => ⟨S4x256x2048, .f32⟩
  | 16 => ⟨S4x256x2048, .f32⟩
  | 17 => ⟨S4x256x2048, .f32⟩
  | 18 => ⟨S4x256x1, .i32⟩
  | 19 => ⟨S1x1x8, .i32⟩
  | 20 => ⟨S4x256x8, .i32⟩
  | 21 => ⟨S4x256x8, .i32⟩
  | 22 => ⟨S4x256x8, .i1⟩
  | 23 => ⟨S4x256x8, .f32⟩
  | 24 => ⟨S_, .f32⟩
  | 25 => ⟨S4x256x8, .f32⟩
  | 26 => ⟨S4x256x8, .f32⟩
  | 27 => ⟨S4x256x8, .f32⟩
  | 28 => ⟨S4x256x2048x1, .f32⟩
  | 29 => ⟨S4x256x2048x8, .f32⟩
  | 30 => ⟨S4x256x2048x8, .f32⟩
  | 31 => ⟨S4x256x1x8, .f32⟩
  | 32 => ⟨S4x256x2048x8, .f32⟩
  | 33 => ⟨S4x256x2048x8, .f32⟩
  | 34 => ⟨S_, .i32⟩
  | 35 => ⟨S1x1x8, .i32⟩
  | 36 => ⟨S1x1x8, .i1⟩
  | 37 => ⟨S4x256x1, .i32⟩
  | 38 => ⟨S4x256x8, .i1⟩
  | 39 => ⟨S4x256x8, .i32⟩
  | 40 => ⟨S4x256x8, .i32⟩
  | 41 => ⟨S_, .i32⟩
  | 42 => ⟨S1x1x8, .i32⟩
  | 43 => ⟨S1x1x8, .i1⟩
  | 44 => ⟨S4x256, .f32⟩
  | 45 => ⟨S4x256x1, .f32⟩
  | 46 => ⟨S4x256x8, .i1⟩
  | 47 => ⟨S4x256x8, .f32⟩
  | 48 => ⟨S4x256x8, .f32⟩
  | 49 => ⟨S_, .i32⟩
  | 50 => ⟨S1x1x8, .i32⟩
  | 51 => ⟨S1x1x8, .i1⟩
  | 52 => ⟨S4x256x1, .f32⟩
  | 53 => ⟨S4x256x8, .i1⟩
  | 54 => ⟨S4x256x8, .f32⟩
  | 55 => ⟨S4x256x8, .f32⟩
  | 56 => ⟨S_, .i32⟩
  | 57 => ⟨S_, .i32⟩
  | 58 => ⟨S4x256x8, .i32⟩
  | 59 => ⟨S4x256x8, .f32⟩
  | 60 => ⟨S4x256x8, .f32⟩
  | 61 => ⟨S_, .f32⟩
  | 62 => ⟨S1x1x8, .f32⟩
  | 63 => ⟨S1x1x8, .f32⟩
  | 64 => ⟨S1x1x8, .f32⟩
  | 65 => ⟨S1x1x8, .f32⟩
  | 66 => ⟨S_, .f32⟩
  | 67 => ⟨S1x1x8, .f32⟩
  | 68 => ⟨S1x1x8, .f32⟩
  | 69 => ⟨S_, .f32⟩
  | 70 => ⟨S1x1x8, .f32⟩
  | 71 => ⟨S1x1x8, .f32⟩
  | 72 => ⟨S_, .f32⟩
  | 73 => ⟨S1x1, .f32⟩
  | 74 => ⟨S1x1x1, .f32⟩
  | 75 => ⟨S_, .f32⟩
  | 76 => ⟨S1x1x1, .f32⟩
  | 77 => ⟨S1x1x1, .f32⟩
  | 78 => ⟨S_, .f32⟩
  | 79 => ⟨S1x1x8, .f32⟩
  | 80 => ⟨S1x1x8, .f32⟩
  | 81 => ⟨S1x1x8, .f32⟩
  | 82 => ⟨S1x1x8, .f32⟩
  | 83 => ⟨S4x256x8, .f32⟩
  | 84 => ⟨S4x256x8, .f32⟩
  | 85 => ⟨S_, .f32⟩
  | 86 => ⟨S4x256, .f32⟩
  | 87 => ⟨S_, .f32⟩
  | 88 => ⟨S4x256, .f32⟩
  | 89 => ⟨S4x256, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_c : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_c_9 : Ref sig .tc := ⟨.hbm, 55, rfl⟩
abbrev main_c_10 : Ref sig .tc := ⟨.hbm, 56, rfl⟩
abbrev main_v32_0 : Ref sig .tc := ⟨.hbm, 57, rfl⟩
abbrev main_v32_1 : Ref sig .tc := ⟨.hbm, 58, rfl⟩
abbrev main_v32_2 : Ref sig .tc := ⟨.hbm, 59, rfl⟩
abbrev main_v32_3 : Ref sig .tc := ⟨.hbm, 60, rfl⟩
abbrev main_v32_4 : Ref sig .tc := ⟨.hbm, 61, rfl⟩
abbrev main_v32_5 : Ref sig .tc := ⟨.hbm, 62, rfl⟩
abbrev main_v32_6 : Ref sig .tc := ⟨.hbm, 63, rfl⟩
abbrev main_v32_7 : Ref sig .tc := ⟨.hbm, 64, rfl⟩
abbrev main_v32_8 : Ref sig .tc := ⟨.hbm, 65, rfl⟩
abbrev main_v32_9 : Ref sig .tc := ⟨.hbm, 66, rfl⟩
abbrev main_v32_10 : Ref sig .tc := ⟨.hbm, 67, rfl⟩
abbrev main_v32_11 : Ref sig .tc := ⟨.hbm, 68, rfl⟩
abbrev main_while0c_c_30 : Ref sig .tc := ⟨.hbm, 69, rfl⟩
abbrev main_while0c_v55 : Ref sig .tc := ⟨.hbm, 70, rfl⟩
abbrev main_while0b_c_30 : Ref sig .tc := ⟨.hbm, 71, rfl⟩
abbrev main_while0b_v55 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_cst_31 : Ref sig .tc := ⟨.hbm, 76, rfl⟩
abbrev main_while0b_v59 : Ref sig .tc := ⟨.hbm, 77, rfl⟩
abbrev main_while0b_v60 : Ref sig .tc := ⟨.hbm, 78, rfl⟩
abbrev main_while0b_cst_32 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_cst_33 : Ref sig .tc := ⟨.hbm, 83, rfl⟩
abbrev main_while0b_v64 : Ref sig .tc := ⟨.hbm, 84, rfl⟩
abbrev main_while0b_v65 : Ref sig .tc := ⟨.hbm, 85, rfl⟩
abbrev main_while0b_values : Ref sig .tc := ⟨.hbm, 86, rfl⟩
abbrev main_while0b_indices : Ref sig .tc := ⟨.hbm, 87, rfl⟩
abbrev main_while0b_v66 : Ref sig .tc := ⟨.hbm, 88, rfl⟩
abbrev main_while0b_cst_34 : Ref sig .tc := ⟨.hbm, 89, rfl⟩
abbrev main_while0b_v67 : Ref sig .tc := ⟨.hbm, 90, rfl⟩
abbrev main_while0b_values_35 : Ref sig .tc := ⟨.hbm, 91, rfl⟩
abbrev main_while0b_indices_36 : Ref sig .tc := ⟨.hbm, 92, rfl⟩
abbrev main_while0b_v68 : Ref sig .tc := ⟨.hbm, 93, rfl⟩
abbrev main_while0b_v69 : Ref sig .tc := ⟨.hbm, 94, rfl⟩
abbrev main_while0b_call2_c : Ref sig .tc := ⟨.hbm, 95, rfl⟩
abbrev main_while0b_call2_v0 : Ref sig .tc := ⟨.hbm, 96, rfl⟩
abbrev main_while0b_call2_v1 : Ref sig .tc := ⟨.hbm, 97, rfl⟩
abbrev main_while0b_call2_c_0 : Ref sig .tc := ⟨.hbm, 98, rfl⟩
abbrev main_while0b_call2_v2 : Ref sig .tc := ⟨.hbm, 99, rfl⟩
abbrev main_while0b_call2_v3 : Ref sig .tc := ⟨.hbm, 100, rfl⟩
abbrev main_while0b_call2_v4 : Ref sig .tc := ⟨.hbm, 101, rfl⟩
abbrev main_while0b_call2_v5 : Ref sig .tc := ⟨.hbm, 102, rfl⟩
abbrev main_while0b_call2_c_1 : Ref sig .tc := ⟨.hbm, 103, rfl⟩
abbrev main_while0b_call2_c_2 : Ref sig .tc := ⟨.hbm, 104, rfl⟩
abbrev main_while0b_call2_v6 : Ref sig .tc := ⟨.hbm, 105, rfl⟩
abbrev main_while0b_call2_v7 : Ref sig .tc := ⟨.hbm, 106, rfl⟩
abbrev main_while0b_call2_v8 : Ref sig .tc := ⟨.hbm, 107, rfl⟩
abbrev main_while0b_call2_v9 : Ref sig .tc := ⟨.hbm, 108, rfl⟩
abbrev main_while0b_call2_v10 : Ref sig .tc := ⟨.hbm, 109, rfl⟩
abbrev main_while0b_call2_v11 : Ref sig .tc := ⟨.hbm, 110, rfl⟩
abbrev main_while0b_call2_c_3 : Ref sig .tc := ⟨.hbm, 111, rfl⟩
abbrev main_while0b_call2_v12 : Ref sig .tc := ⟨.hbm, 112, rfl⟩
abbrev main_while0b_call2_v13 : Ref sig .tc := ⟨.hbm, 113, rfl⟩
abbrev main_while0b_call2_c_4 : Ref sig .tc := ⟨.hbm, 114, rfl⟩
abbrev main_while0b_call2_v14 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_c_37 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_c_38 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_call4_v0 : Ref sig .tc := ⟨.hbm, 136, rfl⟩
abbrev main_while0b_call4_v1 : Ref sig .tc := ⟨.hbm, 137, rfl⟩
abbrev main_while0b_call4_v2 : Ref sig .tc := ⟨.hbm, 138, rfl⟩
abbrev main_while0b_call4_v3 : Ref sig .tc := ⟨.hbm, 139, rfl⟩
abbrev main_while0b_call4_v4 : Ref sig .tc := ⟨.hbm, 140, rfl⟩
abbrev main_while0b_v88 : Ref sig .tc := ⟨.hbm, 141, rfl⟩
abbrev main_while0b_cst_39 : Ref sig .tc := ⟨.hbm, 142, rfl⟩
abbrev main_while0b_v89 : Ref sig .tc := ⟨.hbm, 143, rfl⟩
abbrev main_while0b_v90 : Ref sig .tc := ⟨.hbm, 144, rfl⟩
abbrev main_while0b_v91 : Ref sig .tc := ⟨.hbm, 145, rfl⟩
abbrev main_while0b_call5_v0 : Ref sig .tc := ⟨.hbm, 146, rfl⟩
abbrev main_while0b_call5_v1 : Ref sig .tc := ⟨.hbm, 147, rfl⟩
abbrev main_while0b_call5_v2 : Ref sig .tc := ⟨.hbm, 148, rfl⟩
abbrev main_while0b_call5_v3 : Ref sig .tc := ⟨.hbm, 149, rfl⟩
abbrev main_while0b_call5_v4 : Ref sig .tc := ⟨.hbm, 150, rfl⟩
abbrev main_while0b_v92 : Ref sig .tc := ⟨.hbm, 151, rfl⟩
abbrev main_while0b_cst_40 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_v98 : Ref sig .tc := ⟨.hbm, 158, rfl⟩
abbrev main_while0b_v99 : Ref sig .tc := ⟨.hbm, 159, rfl⟩
abbrev main_while0b_v100 : Ref sig .tc := ⟨.hbm, 160, rfl⟩
abbrev main_while0b_v101 : Ref sig .tc := ⟨.hbm, 161, rfl⟩
abbrev main_while0b_v102 : Ref sig .tc := ⟨.hbm, 162, rfl⟩
abbrev main_while0b_v103 : Ref sig .tc := ⟨.hbm, 163, rfl⟩
abbrev main_while0b_v104 : Ref sig .tc := ⟨.hbm, 164, rfl⟩
abbrev main_while0b_v105 : Ref sig .tc := ⟨.hbm, 165, rfl⟩
abbrev main_while0b_call6_v0 : Ref sig .tc := ⟨.hbm, 166, rfl⟩
abbrev main_while0b_call6_v1 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_v109 : Ref sig .tc := ⟨.hbm, 171, rfl⟩
abbrev main_while0b_v110 : Ref sig .tc := ⟨.hbm, 172, rfl⟩
abbrev main_while0b_v111 : Ref sig .tc := ⟨.hbm, 173, rfl⟩
abbrev main_while0b_call7_v0 : Ref sig .tc := ⟨.hbm, 174, rfl⟩
abbrev main_while0b_call7_v1 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_call8_v0 : Ref sig .tc := ⟨.hbm, 181, rfl⟩
abbrev main_while0b_call8_v1 : Ref sig .tc := ⟨.hbm, 182, rfl⟩
abbrev main_while0b_v117 : Ref sig .tc := ⟨.hbm, 183, rfl⟩
abbrev main_while0b_c_41 : Ref sig .tc := ⟨.hbm, 184, rfl⟩
abbrev main_while0b_v118 : Ref sig .tc := ⟨.hbm, 185, rfl⟩
abbrev main_v33_0 : Ref sig .tc := ⟨.hbm, 186, rfl⟩
abbrev main_v33_1 : Ref sig .tc := ⟨.hbm, 187, rfl⟩
abbrev main_v33_2 : Ref sig .tc := ⟨.hbm, 188, rfl⟩
abbrev main_cst_11 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_cst_12 : Ref sig .tc := ⟨.hbm, 194, rfl⟩
abbrev main_v38 : Ref sig .tc := ⟨.hbm, 195, rfl⟩
abbrev main_v39 : Ref sig .tc := ⟨.hbm, 196, rfl⟩
abbrev main_cst_13 : Ref sig .tc := ⟨.hbm, 197, rfl⟩
abbrev main_v40 : Ref sig .tc := ⟨.hbm, 198, rfl⟩
abbrev main_v41 : Ref sig .tc := ⟨.hbm, 199, rfl⟩
abbrev main_cst_14 : Ref sig .tc := ⟨.hbm, 200, rfl⟩
abbrev main_v42 : Ref sig .tc := ⟨.hbm, 201, rfl⟩
abbrev main_v43 : Ref sig .tc := ⟨.hbm, 202, rfl⟩
abbrev main_cst_15 : Ref sig .tc := ⟨.hbm, 203, rfl⟩
abbrev main_v44 : Ref sig .tc := ⟨.hbm, 204, rfl⟩
abbrev main_v45 : Ref sig .tc := ⟨.hbm, 205, rfl⟩
abbrev main_cst_16 : Ref sig .tc := ⟨.hbm, 206, rfl⟩
abbrev main_v46 : Ref sig .tc := ⟨.hbm, 207, rfl⟩
abbrev main_v47 : Ref sig .tc := ⟨.hbm, 208, rfl⟩
abbrev main_v48 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_cst_17 : Ref sig .tc := ⟨.hbm, 213, rfl⟩
abbrev main_v52 : Ref sig .tc := ⟨.hbm, 214, rfl⟩
abbrev main_cst_18 : Ref sig .tc := ⟨.hbm, 215, rfl⟩
abbrev main_v53 : Ref sig .tc := ⟨.hbm, 216, rfl⟩
abbrev main_v54 : Ref sig .tc := ⟨.hbm, 217, rfl⟩

abbrev nD : Nat := 1
abbrev τ : Topo := Topo.v7x

variable {F : FTy → Type} [FloatOps F]

abbrev main_while0_count : Scf.Loop 32 := ⟨0#32, 8#32, 1#32⟩
-- ==== Proof.BodyTail.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

/-!
The kernel body as a run: what one grid point leaves in its scratch buffers and in its three output blocks,
as functions of the blocks it reads.
-/

set_option maxRecDepth 16384

noncomputable section

namespace Cert.MatchRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, from the grid coordinates. -/
abbrev condE (i : grid0.Coords) : Prop := (Scalar.cmpi .ne (Scalar.extui (Scalar.cmpi .eq (BitVec.ofNat 32 (i 1).val) 0#32)) 0#32) = 1#1
/-- The second branch's condition. -/
abbrev condQ (i : grid0.Coords) : Prop := k0_cond2 i = 1#1

/-- The subpatch number along axis 0. -/
abbrev subs : IVec S8x128 32 := iota .tc S8x128 32 [0] iota_S8x128_d0_w32
/-- The event number along axis 1. -/
abbrev evs : IVec S128x2048 32 := iota .tc S128x2048 32 [1] iota_S128x2048_d1_w32
/-- The slot number along axis 1. -/
abbrev slots : IVec S128x8 32 := iota .tc S128x8 32 [1] iota_S128x8_d1_w32

/-- What the greedy search carries from one pick to the next: the events still allowed, the subpatches still unused,
the penalty of each event, the next subpatch, and its indicator. -/
structure St (F : FTy → Type) where
  act : IVec S128x2048 1
  sub : IVec S8x128 1
  pen : FVec F S128x2048 .f32
  s : IVec S1x128 32
  oh : IVec S8x128 1

/-- The carried values after the first pick. -/
def st1 (v22 : FVec F S8x128x2048 .f32) (v29 : FVec F S8x128 .f32) (v35 : IVec S8x128 32) : St F where
  act := k0_pay16 v22 subs evs v35
  sub := k0_pay17 subs k0_pay7 v35
  pen := k0_pay18 v22 subs evs v35
  s := k0_pay20 v22 subs evs k0_pay7 v29 v35
  oh := k0_pay21 v22 subs evs k0_pay7 v29 v35

/-- One further pick. -/
def stNext (v22 : FVec F S8x128x2048 .f32) (v29 : FVec F S8x128 .f32) (σ : St F) : St F where
  act := k0_pay25 v22 evs σ.act σ.pen σ.oh
  sub := k0_pay26 σ.sub σ.oh
  pen := k0_pay27 v22 evs σ.act σ.pen σ.oh
  s := k0_pay29 v22 subs evs v29 σ.act σ.sub σ.pen σ.oh
  oh := k0_pay30 v22 subs evs v29 σ.act σ.sub σ.pen σ.oh

/-- The carried values after pick `k + 1`. -/
def stAt (v22 : FVec F S8x128x2048 .f32) (v29 : FVec F S8x128 .f32) (v35 : IVec S8x128 32) : ℕ → St F
  | 0 => st1 v22 v29 v35
  | k + 1 => stNext v22 v29 (stAt v22 v29 v35 k)

/-- The value of pick `k`. -/
def pickV (v22 : FVec F S8x128x2048 .f32) (v29 : FVec F S8x128 .f32) (v35 : IVec S8x128 32) : ℕ → FVec F S128x1 .f32
  | 0 => k0_pay14 v22 subs v35
  | k + 1 => k0_pay23 v22 (stAt v22 v29 v35 k).pen (stAt v22 v29 v35 k).oh
/-- The event of pick `k`. -/
def pickC (v22 : FVec F S8x128x2048 .f32) (v29 : FVec F S8x128 .f32) (v35 : IVec S8x128 32) : ℕ → IVec S128x1 32
  | 0 => k0_pay15 v22 subs evs v35
  | k + 1 => k0_pay24 v22 evs (stAt v22 v29 v35 k).pen (stAt v22 v29 v35 k).oh
/-- The subpatch of pick `k`. -/
def pickS (v22 : FVec F S8x128x2048 .f32) (v29 : FVec F S8x128 .f32) (v35 : IVec S8x128 32) : ℕ → IVec S128x1 32
  | 0 => k0_pay19 v35
  | k + 1 => k0_pay28 (stAt v22 v29 v35 k).s

/-- The events of the eight picks in the order of their subpatches. -/
def finIdx (c0 c1 c2 c3 c4 c5 c6 c7 s0 s1 s2 s3 s4 s5 s6 s7 : IVec S128x1 32) : FVec F S128x8 .f32 :=
  let v388 := k0_pay79 (F := F)
  let v417 := k0_pay80 s0 s1 s2 s3 s4
  let v418 := k0_pay81 s0 s5
  let v419 := k0_pay82 s0 s5
  let v449 := k0_pay85 slots c0 s0 s6 s7 v388 v417 v418 v419
  let v471 := k0_pay86 s0 s1 s2 s3
  let v472 := k0_pay87 s1 s4
  let v510 := k0_pay90 slots c1 s1 s4 s5 s6 s7 v449 v471 v472
  let v525 := k0_pay91 s0 s1 s2
  let v571 := k0_pay94 slots c2 s2 s3 s4 s5 s6 s7 v510 v525
  let v572 := k0_pay95
  let v578 := k0_pay96 s0 s3
  let v632 := k0_pay99 slots s1 s2 c3 s3 s4 s5 s6 s7 v571 v572 v578
  let v684 := k0_pay100 slots s0 s1 s2 s3 s4 s5 s6 s7
  let v693 := k0_pay103 c4 v632 v684
  let v736 := k0_pay104 s0 s1 s2 s3 s4 s5 s6
  let v737 := k0_pay105 s5 s7
  let v754 := k0_pay108 slots c5 s5 s7 v693 v736 v737
  let v790 := k0_pay109 s0 s1 s2 s3 s4 s6
  let v815 := k0_pay112 slots s5 c6 s6 s7 v754 v790
  let v837 := k0_pay113 s0 s1 s2 s7
  let v843 := k0_pay114 s3 s7
  k0_pay116 slots s4 s5 s6 c7 s7 v815 v837 v843

/-- The weighted sum of the picks' values in the order of their subpatches. -/
def finAct (v0 v1 v2 v3 v4 v5 v6 v7 : FVec F S128x1 .f32) (s0 s1 s2 s3 s4 s5 s6 s7 : IVec S128x1 32) (ps : Vec F S1x8 .f32) : FVec F S128x1 .f32 :=
  let v387 := k0_pay78 (F := F)
  let v417 := k0_pay80 s0 s1 s2 s3 s4
  let v418 := k0_pay81 s0 s5
  let v419 := k0_pay82 s0 s5
  let v445 := k0_pay84 slots v0 s0 s6 s7 v387 v417 v418 v419
  let v471 := k0_pay86 s0 s1 s2 s3
  let v472 := k0_pay87 s1 s4
  let v506 := k0_pay89 slots v1 s1 s4 s5 s6 s7 v445 v471 v472
  let v525 := k0_pay91 s0 s1 s2
  let v567 := k0_pay93 slots v2 s2 s3 s4 s5 s6 s7 v506 v525
  let v572 := k0_pay95
  let v578 := k0_pay96 s0 s3
  let v628 := k0_pay98 slots s1 s2 v3 s3 s4 s5 s6 s7 v567 v572 v578
  let v684 := k0_pay100 slots s0 s1 s2 s3 s4 s5 s6 s7
  let v689 := k0_pay102 v4 v628 v684
  let v736 := k0_pay104 s0 s1 s2 s3 s4 s5 s6
  let v737 := k0_pay105 s5 s7
  let v750 := k0_pay107 slots v5 s5 s7 v689 v736 v737
  let v790 := k0_pay109 s0 s1 s2 s3 s4 s6
  let v811 := k0_pay111 slots s5 v6 s6 s7 v750 v790
  let v837 := k0_pay113 s0 s1 s2 s7
  let v843 := k0_pay114 s3 s7
  k0_pay117 slots s4 s5 s6 v7 s7 v811 v837 v843 ps

/-- The events block of a grid point, from its distances. -/
def outIdx (v22 : FVec F S8x128x2048 .f32) (v29 : FVec F S8x128 .f32) (v35 : IVec S8x128 32) : FVec F S128x8 .f32 :=
  finIdx (pickC v22 v29 v35 0) (pickC v22 v29 v35 1) (pickC v22 v29 v35 2) (pickC v22 v29 v35 3) (pickC v22 v29 v35 4) (pickC v22 v29 v35 5) (pickC v22 v29 v35 6) (pickC v22 v29 v35 7) (pickS v22 v29 v35 0) (pickS v22 v29 v35 1) (pickS v22 v29 v35 2) (pickS v22 v29 v35 3) (pickS v22 v29 v35 4) (pickS v22 v29 v35 5) (pickS v22 v29 v35 6) (pickS v22 v29 v35 7)
/-- The weighted sum of a grid point, from its distances. -/
def outAct (v22 : FVec F S8x128x2048 .f32) (v29 : FVec F S8x128 .f32) (v35 : IVec S8x128 32) (ps : Vec F S1x8 .f32) : FVec F S128x1 .f32 :=
  finAct (pickV v22 v29 v35 0) (pickV v22 v29 v35 1) (pickV v22 v29 v35 2) (pickV v22 v29 v35 3) (pickV v22 v29 v35 4) (pickV v22 v29 v35 5) (pickV v22 v29 v35 6) (pickV v22 v29 v35 7) (pickS v22 v29 v35 0) (pickS v22 v29 v35 1) (pickS v22 v29 v35 2) (pickS v22 v29 v35 3) (pickS v22 v29 v35 4) (pickS v22 v29 v35 5) (pickS v22 v29 v35 6) (pickS v22 v29 v35 7) ps

/-- The body after its first part, as a program of the first part's results. -/
def tailProg (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (r : Σ' (v22 : FVec F S8x128x2048 .f32) (v23 : IVec S8x128 32) (v24 : IVec S128x2048 32) (v25 : IVec S128x8 32) (v26 : IVec S8x128 1) (v29 : FVec F S8x128 .f32), IVec S8x128 32) :
    Prog (TpuEff nD τ sig (Elt F) Λ₀ .tc) PUnit := do
  let ⟨v22, v23, v24, v25, v26, v29, v35⟩ := r
  let ⟨v47, v53, v55, v57, v66, v67, v80, v82⟩ : Σ' (v47 : FVec F S128x1 .f32) (v53 : IVec S128x1 32) (v55 : IVec S128x2048 1) (v57 : IVec S8x128 1) (v66 : FVec F S128x2048 .f32) (v67 : IVec S128x1 32) (v80 : IVec S1x128 32), IVec S8x128 1 ← k0_part2 i arg2 harg2 arg3 harg3 arg4 harg4 arg5 harg5 arg6 harg6 arg7 harg7 arg8 harg8 arg9 harg9 arg10 harg10 v22 v23 v24 v26 v29 v35
  let ⟨v91, v97, v100, v102, v114, v115, v128, v130⟩ : Σ' (v91 : FVec F S128x1 .f32) (v97 : IVec S128x1 32) (v100 : IVec S128x2048 1) (v102 : IVec S8x128 1) (v114 : FVec F S128x2048 .f32) (v115 : IVec S128x1 32) (v128 : IVec S1x128 32), IVec S8x128 1 ← k0_part3 i arg2 harg2 arg3 harg3 arg4 harg4 arg5 harg5 arg6 harg6 arg7 harg7 arg8 harg8 arg9 harg9 arg10 harg10 v22 v23 v24 v29 v55 v57 v66 v80 v82
  let ⟨v139, v145, v148, v150, v162, v163, v176, v178⟩ : Σ' (v139 : FVec F S128x1 .f32) (v145 : IVec S128x1 32) (v148 : IVec S128x2048 1) (v150 : IVec S8x128 1) (v162 : FVec F S128x2048 .f32) (v163 : IVec S128x1 32) (v176 : IVec S1x128 32), IVec S8x128 1 ← k0_part4 i arg2 harg2 arg3 harg3 arg4 harg4 arg5 harg5 arg6 harg6 arg7 harg7 arg8 harg8 arg9 harg9 arg10 harg10 v22 v23 v24 v29 v100 v102 v114 v128 v130
  let ⟨v187, v193, v196, v198, v210, v211, v224, v226⟩ : Σ' (v187 : FVec F S128x1 .f32) (v193 : IVec S128x1 32) (v196 : IVec S128x2048 1) (v198 : IVec S8x128 1) (v210 : FVec F S128x2048 .f32) (v211 : IVec S128x1 32) (v224 : IVec S1x128 32), IVec S8x128 1 ← k0_part5 i arg2 harg2 arg3 harg3 arg4 harg4 arg5 harg5 arg6 harg6 arg7 harg7 arg8 harg8 arg9 harg9 arg10 harg10 v22 v23 v24 v29 v148 v150 v162 v176 v178
  let ⟨v235, v241, v244, v246, v258, v259, v272, v274⟩ : Σ' (v235 : FVec F S128x1 .f32) (v241 : IVec S128x1 32) (v244 : IVec S128x2048 1) (v246 : IVec S8x128 1) (v258 : FVec F S128x2048 .f32) (v259 : IVec S128x1 32) (v272 : IVec S1x128 32), IVec S8x128 1 ← k0_part6 i arg2 harg2 arg3 harg3 arg4 harg4 arg5 harg5 arg6 harg6 arg7 harg7 arg8 harg8 arg9 harg9 arg10 harg10 v22 v23 v24 v29 v196 v198 v210 v224 v226
  let ⟨v283, v289, v292, v294, v306, v307, v320, v322⟩ : Σ' (v283 : FVec F S128x1 .f32) (v289 : IVec S128x1 32) (v292 : IVec S128x2048 1) (v294 : IVec S8x128 1) (v306 : FVec F S128x2048 .f32) (v307 : IVec S128x1 32) (v320 : IVec S1x128 32), IVec S8x128 1 ← k0_part7 i arg2 harg2 arg3 harg3 arg4 harg4 arg5 harg5 arg6 harg6 arg7 harg7 arg8 harg8 arg9 harg9 arg10 harg10 v22 v23 v24 v29 v244 v246 v258 v272 v274
  let ⟨v331, v337, v354, v355, v368, v370⟩ : Σ' (v331 : FVec F S128x1 .f32) (v337 : IVec S128x1 32) (v354 : FVec F S128x2048 .f32) (v355 : IVec S128x1 32) (v368 : IVec S1x128 32), IVec S8x128 1 ← k0_part8 i arg2 harg2 arg3 harg3 arg4 harg4 arg5 harg5 arg6 harg6 arg7 harg7 arg8 harg8 arg9 harg9 arg10 harg10 v22 v23 v24 v29 v292 v294 v306 v320 v322
  let ⟨v379, v385, v386, v387, v388, v417, v418, v419⟩ : Σ' (v379 : FVec F S128x1 .f32) (v385 : IVec S128x1 32) (v386 : IVec S128x1 32) (v387 : FVec F S128x8 .f32) (v388 : FVec F S128x8 .f32) (v417 : IVec S128x1 32) (v418 : IVec S128x1 1), IVec S128x1 1 ← k0_part9 i arg2 harg2 arg3 harg3 arg4 harg4 arg5 harg5 arg6 harg6 arg7 harg7 arg8 harg8 arg9 harg9 arg10 harg10 v22 v24 v67 v115 v163 v211 v259 v307 v354 v368 v370
  let ⟨v445, v449, v471, v472⟩ : Σ' (v445 : FVec F S128x8 .f32) (v449 : FVec F S128x8 .f32) (v471 : IVec S128x1 32), IVec S128x1 1 ← k0_part10 i arg2 harg2 arg3 harg3 arg4 harg4 arg5 harg5 arg6 harg6 arg7 harg7 arg8 harg8 arg9 harg9 arg10 harg10 v25 v47 v53 v67 v115 v163 v211 v259 v355 v386 v387 v388 v417 v418 v419
  let ⟨v506, v510, v525⟩ : Σ' (v506 : FVec F S128x8 .f32) (v510 : FVec F S128x8 .f32), IVec S128x1 32 ← k0_part11 i arg2 harg2 arg3 harg3 arg4 harg4 arg5 harg5 arg6 harg6 arg7 harg7 arg8 harg8 arg9 harg9 arg10 harg10 v25 v67 v91 v97 v115 v163 v259 v307 v355 v386 v445 v449 v471 v472
  let ⟨v567, v571, v572, v578⟩ : Σ' (v567 : FVec F S128x8 .f32) (v571 : FVec F S128x8 .f32) (v572 : IVec S128x1 32), IVec S128x1 32 ← k0_part12 i arg2 harg2 arg3 harg3 arg4 harg4 arg5 harg5 arg6 harg6 arg7 harg7 arg8 harg8 arg9 harg9 arg10 harg10 v25 v67 v139 v145 v163 v211 v259 v307 v355 v386 v506 v510 v525
  let ⟨v628, v632⟩ : Σ' (v628 : FVec F S128x8 .f32), FVec F S128x8 .f32 ← k0_part13 i arg2 harg2 arg3 harg3 arg4 harg4 arg5 harg5 arg6 harg6 arg7 harg7 arg8 harg8 arg9 harg9 arg10 harg10 v25 v115 v163 v187 v193 v211 v259 v307 v355 v386 v567 v571 v572 v578
  let v684 : IVec S128x8 1 ← k0_part14 i arg2 harg2 arg3 harg3 arg4 harg4 arg5 harg5 arg6 harg6 arg7 harg7 arg8 harg8 arg9 harg9 arg10 harg10 v25 v67 v115 v163 v211 v259 v307 v355 v386
  let ⟨v689, v693, v736, v737⟩ : Σ' (v689 : FVec F S128x8 .f32) (v693 : FVec F S128x8 .f32) (v736 : IVec S128x1 32), IVec S128x1 1 ← k0_part15 i arg2 harg2 arg3 harg3 arg4 harg4 arg5 harg5 arg6 harg6 arg7 harg7 arg8 harg8 arg9 harg9 arg10 harg10 v67 v115 v163 v211 v235 v241 v259 v307 v355 v386 v628 v632 v684
  let ⟨v750, v754, v790⟩ : Σ' (v750 : FVec F S128x8 .f32) (v754 : FVec F S128x8 .f32), IVec S128x1 32 ← k0_part16 i arg2 harg2 arg3 harg3 arg4 harg4 arg5 harg5 arg6 harg6 arg7 harg7 arg8 harg8 arg9 harg9 arg10 harg10 v25 v67 v115 v163 v211 v259 v283 v289 v307 v355 v386 v689 v693 v736 v737
  let ⟨v811, v815, v837, v843⟩ : Σ' (v811 : FVec F S128x8 .f32) (v815 : FVec F S128x8 .f32) (v837 : IVec S128x1 32), IVec S128x1 32 ← k0_part17 i arg2 harg2 arg3 harg3 arg4 harg4 arg5 harg5 arg6 harg6 arg7 harg7 arg8 harg8 arg9 harg9 arg10 harg10 v25 v67 v115 v163 v211 v307 v331 v337 v355 v386 v750 v754 v790
  let ⟨v876, v893⟩ : Σ' (v876 : FVec F S128x8 .f32), FVec F S128x1 .f32 ← k0_part18 i arg2 harg2 arg3 harg3 arg4 harg4 arg5 harg5 arg6 harg6 arg7 harg7 arg8 harg8 arg9 harg9 arg10 harg10 v25 v259 v307 v355 v379 v385 v386 v811 v815 v837 v843
  let v894 : Vec F S1x1x128x1 .f32 ← Prog.lift (.load arg6 (Rect.unit (s := S1x1x128x1) ![0, 0, 0, 0] S1x1x128x1.size inb_S1x1x128x1_S1x1x128x1_0_0_0_0).toLoadRect (View.loadsAt_vmem h_S1x1x128x1))
  Prog.lift (.store arg6 (Rect.unit (s := S1x1x128x1) ![0, 0, 0, 0] S1x1x128x1.size inb_S1x1x128x1_S1x1x128x1_0_0_0_0) (k0_pay1 v893) Finset.univ (View.stores_vmem_bits_univ h_S1x1x128x1 rfl) (.inl rfl))
  let v899 : Vec F S1x1x128x1 .f32 ← Prog.lift (.load arg7 (Rect.unit (s := S1x1x128x1) ![0, 0, 0, 0] S1x1x128x1.size inb_S1x1x128x1_S1x1x128x1_0_0_0_0).toLoadRect (View.loadsAt_vmem h_S1x1x128x1))
  Prog.lift (.store arg7 (Rect.unit (s := S1x1x128x1) ![0, 0, 0, 0] S1x1x128x1.size inb_S1x1x128x1_S1x1x128x1_0_0_0_0) (k0_pay2 v893) Finset.univ (View.stores_vmem_bits_univ h_S1x1x128x1 rfl) (.inl rfl))
  let v902 : Vec F S1x1x128x8 .f32 ← Prog.lift (.load arg8 (Rect.unit (s := S1x1x128x8) ![0, 0, 0, 0] S1x1x128x8.size inb_S1x1x128x8_S1x1x128x8_0_0_0_0).toLoadRect (View.loadsAt_vmem h_S1x1x128x8))
  Prog.lift (.store arg8 (Rect.unit (s := S1x1x128x8) ![0, 0, 0, 0] S1x1x128x8.size inb_S1x1x128x8_S1x1x128x8_0_0_0_0) (k0_pay3 v876) Finset.univ (View.stores_vmem_bits_univ h_S1x1x128x8 rfl) (.inl rfl))
  pure ⟨⟩

/-- The body is its first part followed by the rest. -/
theorem body_eq (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) :
    cc0__matcher_kernel_skel (F := F) i arg2 harg2 arg3 harg3 arg4 harg4 arg5 harg5 arg6 harg6 arg7 harg7 arg8 harg8 arg9 harg9 arg10 harg10 = (k0_part1 (F := F) i arg2 harg2 arg3 harg3 arg4 harg4 arg5 harg5 arg6 harg6 arg7 harg7 arg8 harg8 arg9 harg9 arg10 harg10 >>= tailProg (F := F) i arg2 harg2 arg3 harg3 arg4 harg4 arg5 harg5 arg6 harg6 arg7 harg7 arg8 harg8 arg9 harg9 arg10 harg10) := rfl

/-- Round 2's printed functions are round one's. -/
theorem round2_eq : @k0_pay31 F _ = @k0_pay22 F _ ∧ @k0_pay32 F _ = @k0_pay23 F _ ∧ @k0_pay33 F _ = @k0_pay24 F _ ∧ @k0_pay34 F _ = @k0_pay25 F _ ∧ k0_pay35 = k0_pay26 ∧ @k0_pay36 F _ = @k0_pay27 F _ ∧ k0_pay37 = k0_pay28 ∧ @k0_pay38 F _ = @k0_pay29 F _ ∧ @k0_pay39 F _ = @k0_pay30 F _ :=
  ⟨rfl, rfl, rfl, rfl, rfl, rfl, rfl, rfl, rfl⟩
/-- Round 3's printed functions are round one's. -/
theorem round3_eq : @k0_pay40 F _ = @k0_pay22 F _ ∧ @k0_pay41 F _ = @k0_pay23 F _ ∧ @k0_pay42 F _ = @k0_pay24 F _ ∧ @k0_pay43 F _ = @k0_pay25 F _ ∧ k0_pay44 = k0_pay26 ∧ @k0_pay45 F _ = @k0_pay27 F _ ∧ k0_pay46 = k0_pay28 ∧ @k0_pay47 F _ = @k0_pay29 F _ ∧ @k0_pay48 F _ = @k0_pay30 F _ :=
  ⟨rfl, rfl, rfl, rfl, rfl, rfl, rfl, rfl, rfl⟩
/-- Round 4's printed functions are round one's. -/
theorem round4_eq : @k0_pay49 F _ = @k0_pay22 F _ ∧ @k0_pay50 F _ = @k0_pay23 F _ ∧ @k0_pay51 F _ = @k0_pay24 F _ ∧ @k0_pay52 F _ = @k0_pay25 F _ ∧ k0_pay53 = k0_pay26 ∧ @k0_pay54 F _ = @k0_pay27 F _ ∧ k0_pay55 = k0_pay28 ∧ @k0_pay56 F _ = @k0_pay29 F _ ∧ @k0_pay57 F _ = @k0_pay30 F _ :=
  ⟨rfl, rfl, rfl, rfl, rfl, rfl, rfl, rfl, rfl⟩
/-- Round 5's printed functions are round one's. -/
theorem round5_eq : @k0_pay58 F _ = @k0_pay22 F _ ∧ @k0_pay59 F _ = @k0_pay23 F _ ∧ @k0_pay60 F _ = @k0_pay24 F _ ∧ @k0_pay61 F _ = @k0_pay25 F _ ∧ k0_pay62 = k0_pay26 ∧ @k0_pay63 F _ = @k0_pay27 F _ ∧ k0_pay64 = k0_pay28 ∧ @k0_pay65 F _ = @k0_pay29 F _ ∧ @k0_pay66 F _ = @k0_pay30 F _ :=
  ⟨rfl, rfl, rfl, rfl, rfl, rfl, rfl, rfl, rfl⟩
/-- Round 6's printed functions are round one's. -/
theorem round6_eq : @k0_pay68 F _ = @k0_pay23 F _ ∧ @k0_pay69 F _ = @k0_pay24 F _ ∧ @k0_pay70 F _ = @k0_pay27 F _ ∧ k0_pay71 = k0_pay28 ∧ @k0_pay72 F _ = @k0_pay29 F _ ∧ @k0_pay73 F _ = @k0_pay30 F _ :=
  ⟨rfl, rfl, rfl, rfl, rfl, rfl⟩
/-- Round 7's printed functions are round one's. -/
theorem round7_eq : @k0_pay75 F _ = @k0_pay23 F _ ∧ @k0_pay76 F _ = @k0_pay24 F _ ∧ k0_pay77 = k0_pay28 :=
  ⟨rfl, rfl, rfl⟩

/-- The body after its first part with the eight picks named. -/
def tailOut (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (v22 : FVec F S8x128x2048 .f32) (v29 : FVec F S8x128 .f32) (v35 : IVec S8x128 32) : Prog (TpuEff nD τ sig (Elt F) Λ₀ .tc) PUnit := do
  let ps : Vec F S1x8 .f32 ← Prog.lift (.load arg5 (Rect.unit (s := S1x8) ![0, 0] S1x8.size inb_S1x8_S1x8_0_0).toLoadRect (View.loadsAt_vmem h_S1x8))
  let v894 : Vec F S1x1x128x1 .f32 ← Prog.lift (.load arg6 (Rect.unit (s := S1x1x128x1) ![0, 0, 0, 0] S1x1x128x1.size inb_S1x1x128x1_S1x1x128x1_0_0_0_0).toLoadRect (View.loadsAt_vmem h_S1x1x128x1))
  Prog.lift (.store arg6 (Rect.unit (s := S1x1x128x1) ![0, 0, 0, 0] S1x1x128x1.size inb_S1x1x128x1_S1x1x128x1_0_0_0_0) (k0_pay1 (outAct v22 v29 v35 ps)) Finset.univ (View.stores_vmem_bits_univ h_S1x1x128x1 rfl) (.inl rfl))
  let v899 : Vec F S1x1x128x1 .f32 ← Prog.lift (.load arg7 (Rect.unit (s := S1x1x128x1) ![0, 0, 0, 0] S1x1x128x1.size inb_S1x1x128x1_S1x1x128x1_0_0_0_0).toLoadRect (View.loadsAt_vmem h_S1x1x128x1))
  Prog.lift (.store arg7 (Rect.unit (s := S1x1x128x1) ![0, 0, 0, 0] S1x1x128x1.size inb_S1x1x128x1_S1x1x128x1_0_0_0_0) (k0_pay2 (outAct v22 v29 v35 ps)) Finset.univ (View.stores_vmem_bits_univ h_S1x1x128x1 rfl) (.inl rfl))
  let v902 : Vec F S1x1x128x8 .f32 ← Prog.lift (.load arg8 (Rect.unit (s := S1x1x128x8) ![0, 0, 0, 0] S1x1x128x8.size inb_S1x1x128x8_S1x1x128x8_0_0_0_0).toLoadRect (View.loadsAt_vmem h_S1x1x128x8))
  Prog.lift (.store arg8 (Rect.unit (s := S1x1x128x8) ![0, 0, 0, 0] S1x1x128x8.size inb_S1x1x128x8_S1x1x128x8_0_0_0_0) (k0_pay3 (outIdx v22 v29 v35)) Finset.univ (View.stores_vmem_bits_univ h_S1x1x128x8 rfl) (.inl rfl))
  pure ⟨⟩

set_option maxHeartbeats 1000000 in
/-- The printed rest of the body is the one with the picks named. -/
theorem tail_eq (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (v22 : FVec F S8x128x2048 .f32) (v29 : FVec F S8x128 .f32) (v35 : IVec S8x128 32) :
    tailProg i arg2 harg2 arg3 harg3 arg4 harg4 arg5 harg5 arg6 harg6 arg7 harg7 arg8 harg8 arg9 harg9 arg10 harg10 ⟨v22, subs, evs, slots, k0_pay7, v29, v35⟩ = tailOut i arg2 harg2 arg3 harg3 arg4 harg4 arg5 harg5 arg6 harg6 arg7 harg7 arg8 harg8 arg9 harg9 arg10 harg10 v22 v29 v35 := by
  simp only [tailProg, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, pure_bind, round2_eq (F := F), round3_eq (F := F), round4_eq (F := F), round5_eq (F := F), round6_eq (F := F), round7_eq (F := F), bind_assoc]
  simp only [tailOut, outAct, outIdx, finAct, finIdx, pickV, pickC, pickS, stAt, stNext, st1]

set_option maxHeartbeats 1000000 in
/-- The body after its first part stores the weighted sum, eight minus it, and the events block. -/
theorem tail_run (c : Dev nD) (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (v22 : FVec F S8x128x2048 .f32) (v29 : FVec F S8x128 .f32) (v35 : IVec S8x128 32) (x3 : Vec F S1x8 .f32) (E : Set ℕ) (K : PUnit → sProp 𝕄) :
    iprop(owns (c : Thread nD τ) arg5 fullShare x3 ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg5 fullShare x3 ∗ owns (c : Thread nD τ) arg6 fullShare (k0_pay1 (outAct v22 v29 v35 x3)) ∗ owns (c : Thread nD τ) arg7 fullShare (k0_pay2 (outAct v22 v29 v35 x3)) ∗ owns (c : Thread nD τ) arg8 fullShare (k0_pay3 (outIdx v22 v29 v35))) -∗ K ⟨⟩))
      ⊢ wp frame (wpE (defs₀ (F := F)) Variants.none c none) E (tailOut i arg2 harg2 arg3 harg3 arg4 harg4 arg5 harg5 arg6 harg6 arg7 harg7 arg8 harg8 arg9 harg9 arg10 harg10 v22 v29 v35) K := by
  unfold tailOut
  unfold owns
  iintro ⟨⟨%f3, %hf3, H3⟩, ⟨%d4, %f4, -, H4⟩, ⟨%d5, %f5, -, H5⟩, ⟨%d6, %f6, -, H6⟩, Hk⟩
  obtain rfl := harg5.eq_unread hf3
  sl_exec
  sl_step
  iapply Hk
  isplitl [H3]
  · iexists _; isplitr; · ipureintro; exact harg5.read_unread _
    iexact H3
  isplitl [H4]
  · iexists _; isplitr; swap; · iexact H4
    ipureintro
    refine (View.read_writes_full _ _ _ _ []).trans ?_
    show k0_pay1 (outAct v22 v29 v35 (View.readAt (Elt F) arg5.view (Rect.unit ![0, 0] S1x8.size inb_S1x8_S1x8_0_0).toLoadRect (harg5.unread x3))) = _
    rw [View.readAt_full, hf3]
  isplitl [H5]
  · iexists _; isplitr; swap; · iexact H5
    ipureintro
    refine (View.read_writes_full _ _ _ _ []).trans ?_
    show k0_pay2 (outAct v22 v29 v35 (View.readAt (Elt F) arg5.view (Rect.unit ![0, 0] S1x8.size inb_S1x8_S1x8_0_0).toLoadRect (harg5.unread x3))) = _
    rw [View.readAt_full, hf3]
  iexists _; isplitr; swap; · iexact H6
  ipureintro
  refine (View.read_writes_full _ _ _ _ []).trans ?_
  show k0_pay3 (outIdx v22 v29 v35) = _
  rfl

end Cert.MatchRun
end
-- ==== Proof.Pick.lean ====
module

public import Idealize.ShloMosaic.Lib.SortFacts
public import Idealize.ShloMosaic.Lib.Pointwise
public import Idealize.ShloMosaic.Lib.SortNet.Extract

@[expose] public section

/-!
The greedy search as mathematics, for one prototype of one batch: `D n t` is the similarity of subpatch `n` and event
`t`. The two ways of masking, a penalty on events that skips the used subpatches' rows and a penalty on every masked
pair, pick the same subpatches, events and values.
-/

noncomputable section

namespace Cert.Match

open Idealize.ShloMosaic

/-- The penalty. -/
def NEG : EReal := ((-100000 : ℝ) : EReal)

/-- The printed penalty is minus one hundred thousand. -/
theorem ofBits_NEG : Ideal.ofBits .f32 0xC7C35000#32 = NEG := by
  unfold NEG
  simp [Ideal.ofBits, Ideal.ieee]
  rw [← EReal.coe_mul]
  norm_num
/-- The printed negative infinity is the least extended real. -/
theorem ofBits_bot : Ideal.ofBits .f32 0xFF800000#32 = ⊥ := by
  simp [Ideal.ofBits, Ideal.ieee]
/-- The printed negative zero is zero. -/
theorem ofBits_nzero : Ideal.ofBits .f32 0x80000000#32 = 0 := by
  simp [Ideal.ofBits, Ideal.ieee]

/-! ## Greatest entries -/

/-- The greatest of a row. -/
def rowMax {n : ℕ} (f : Fin n → EReal) : EReal := Finset.univ.fold max ⊥ f

/-- `c` is the first position of the greatest entry. -/
def FirstMax {n : ℕ} (f : Fin n → EReal) (c : Fin n) : Prop := (∀ t, f t ≤ f c) ∧ ∀ t, t < c → f t < f c

/-- Each entry is at most the greatest. -/
theorem le_rowMax {n : ℕ} (f : Fin n → EReal) (t : Fin n) : f t ≤ rowMax f :=
  (Finset.le_fold_max (f t)).2 (Or.inr ⟨t, Finset.mem_univ t, le_rfl⟩)

/-- The greatest is at most any bound of the entries. -/
theorem rowMax_le {n : ℕ} (f : Fin n → EReal) (x : EReal) (h : ∀ t, f t ≤ x) : rowMax f ≤ x :=
  (Finset.fold_max_le x).2 ⟨bot_le, fun t _ => h t⟩

/-- The greatest entry is taken at its first position. -/
theorem FirstMax.rowMax_eq {n : ℕ} {f : Fin n → EReal} {c : Fin n} (h : FirstMax f c) : rowMax f = f c :=
  le_antisymm (rowMax_le f _ h.1) (le_rowMax f c)

/-- There is one first greatest entry. -/
theorem FirstMax.unique {n : ℕ} {f : Fin n → EReal} {c c' : Fin n} (h : FirstMax f c) (h' : FirstMax f c') : c = c' := by
  rcases lt_trichotomy c c' with hl | he | hl
  · exact absurd (h'.2 c hl) (not_lt.2 (h.1 c'))
  · exact he
  · exact absurd (h.2 c' hl) (not_lt.2 (h'.1 c))

/-- A row of at least one entry has a first greatest one. -/
theorem exists_firstMax {n : ℕ} [NeZero n] (f : Fin n → EReal) : ∃ c, FirstMax f c := by
  have he : ∃ c, ∀ t, f t ≤ f c := by
    obtain ⟨c, _, hc⟩ := Finset.exists_max_image Finset.univ f ⟨0, Finset.mem_univ 0⟩
    exact ⟨c, fun t => hc t (Finset.mem_univ t)⟩
  classical
  obtain ⟨c, hc, hmin⟩ := exists_minimal_of_wellFoundedLT (fun c : Fin n => ∀ t, f t ≤ f c) he
  refine ⟨c, hc, fun t ht => lt_of_le_of_ne (hc t) fun heq => ?_⟩
  exact absurd (hmin (y := t) (fun u => heq ▸ hc u) ht.le) (not_le.2 ht)

/-- The greatest entry of a row is one of its entries. -/
theorem exists_eq_rowMax {n : ℕ} [NeZero n] (f : Fin n → EReal) : ∃ c, f c = rowMax f := by
  obtain ⟨c, hc⟩ := exists_firstMax f
  exact ⟨c, hc.rowMax_eq.symm⟩

/-- Adding the penalty to every entry adds it to the greatest. -/
theorem rowMax_add {n : ℕ} [NeZero n] (f : Fin n → EReal) (x : EReal) :
    rowMax (fun t => f t + x) = rowMax f + x := by
  refine le_antisymm (rowMax_le _ _ fun t => ?_) ?_
  · gcongr
    exact le_rowMax f t
  · obtain ⟨c, hc⟩ := exists_eq_rowMax f
    rw [← hc]
    exact le_rowMax (fun t => f t + x) c

/-- The least position holding the greatest entry, as a word: the fold of the signed minimum over the positions
selected. -/
theorem fold_minsi_first {n : ℕ} [NeZero n] (hn : n < 2 ^ 30) (f : Fin n → EReal) (w : Fin n → BitVec 32)
    (hw : ∀ t, w t = if f t = rowMax f then BitVec.ofNat 32 t.val else BitVec.ofNat 32 n) (c : Fin n) (hc : FirstMax f c) :
    Finset.univ.fold IntOp.minsi 2147483647#32 w = BitVec.ofNat 32 c.val := by
  have hi : ∀ k : ℕ, k < 2 ^ 31 → (BitVec.ofNat 32 k).toInt = (k : ℤ) := by
    intro k hk
    have h1 : (BitVec.ofNat 32 k).toNat = k := by rw [BitVec.toNat_ofNat]; omega
    rw [BitVec.toInt_eq_toNat_of_lt (by omega), h1]
  have hfold : ∀ s : Finset (Fin n), (s.fold IntOp.minsi 2147483647#32 w).toInt
      = s.fold min (2147483647 : ℤ) (fun t => (w t).toInt) := by
    intro s
    induction s using Finset.cons_induction with
    | empty => rfl
    | cons a s ha ih => rw [Finset.fold_cons, Finset.fold_cons, SortNet.toInt_minsi, ih]
  apply BitVec.eq_of_toInt_eq
  have hcn : c.val < n := c.isLt
  rw [hfold, hi c.val (by omega)]
  apply le_antisymm
  · refine (Finset.fold_min_le _).2 (Or.inr ⟨c, Finset.mem_univ c, ?_⟩)
    rw [hw c, if_pos hc.rowMax_eq.symm, hi c.val (by omega)]
  · refine (Finset.le_fold_min _).2 ⟨by omega, fun t _ => ?_⟩
    rw [hw t]
    split
    · rename_i h
      have htn : t.val < n := t.isLt
      rw [hi t.val (by omega)]
      have : c ≤ t := not_lt.1 fun hl => absurd (hc.2 t hl) (by rw [h, hc.rowMax_eq]; exact lt_irrefl _)
      exact_mod_cast this
    · rw [hi n (by omega)]
      omega

/-! ## The search -/

section Search

variable (D : Fin 8 → Fin 2048 → EReal) (s : ℕ → Fin 8) (c : ℕ → Fin 2048) (k : ℕ)

/-- Subpatch `n` was picked before pick `k`. -/
def used (n : Fin 8) : Prop := ∃ i, i < k ∧ s i = n

/-- At most sixteen apart. -/
def near (x t : Fin 2048) : Prop := t.val ≤ x.val + 16 ∧ x.val ≤ t.val + 16

/-- Event `t` may be picked at pick `k`: any at the first; afterwards one not yet picked, near the last, and from the
third pick on after the last. -/
def allow (t : Fin 2048) : Prop :=
  k = 0 ∨ ((∀ i, i < k → c i ≠ t) ∧ near (c (k - 1)) t ∧ (1 < k → (c (k - 1)).val < t.val))

open Classical in
/-- A subpatch's row with the penalty on the events not allowed. -/
def eventRow (n : Fin 8) (t : Fin 2048) : EReal := D n t + if allow c k t then 0 else NEG

open Classical in
/-- A subpatch's greatest entry at pick `k`: a used one's whole row is penalised. -/
def eventTop (n : Fin 8) : EReal := if used s k n then rowMax (D n) + NEG else rowMax (eventRow D c k n)

open Classical in
/-- A subpatch's row with the penalty on the pairs not allowed. -/
def pairRow (n : Fin 8) (t : Fin 2048) : EReal := D n t + if used s k n ∨ ¬ allow c k t then NEG else 0

/-- The first eight picks, a penalty on events. -/
def EventRun : Prop := ∀ k, k < 8 → FirstMax (eventTop D s c k) (s k) ∧ FirstMax (eventRow D c k (s k)) (c k)

/-- The first eight picks, a penalty on pairs. -/
def PairRun : Prop := ∀ k, k < 8 → FirstMax (fun n => rowMax (pairRow D s c k n)) (s k)
  ∧ FirstMax (pairRow D s c k (s k)) (c k)

/-- What the data give: a masked event's similarities are the penalty, another event's are bounded by the width; and
unless no event is masked no subpatch's greatest similarity is zero. -/
structure Good : Prop where
  event : ∀ t, (∀ n, D n t = NEG) ∨ ∀ n, ∃ x : ℝ, D n t = (x : EReal) ∧ -768 ≤ x ∧ x ≤ 768
  tie : (∀ t n, ∃ x : ℝ, D n t = (x : EReal) ∧ -768 ≤ x ∧ x ≤ 768) ∨ ∀ n, rowMax (D n) ≠ 0

/-- A subpatch's best under the pair penalty is its best under the event penalty. -/
theorem eventTop_eq (n : Fin 8) : rowMax (pairRow D s c k n) = eventTop D s c k n := by
  classical
  unfold eventTop
  by_cases hu : used s k n
  · rw [if_pos hu, ← rowMax_add]
    congr 1
    funext t
    unfold pairRow
    rw [if_pos (Or.inl hu)]
  · rw [if_neg hu]
    congr 1
    funext t
    unfold pairRow eventRow
    by_cases ha : allow c k t
    · rw [if_pos ha, if_neg (by tauto)]
    · rw [if_neg ha, if_pos (Or.inr ha)]

/-- Before the eighth pick some subpatch is unused. -/
theorem exists_unused (hk : k < 8) : ∃ n, ¬ used s k n := by
  by_contra hcon
  push Not at hcon
  have hsub : (Finset.univ : Finset (Fin 8)) ⊆ (Finset.range k).image s := by
    intro n _
    obtain ⟨i, hi, he⟩ := hcon n
    exact Finset.mem_image.2 ⟨i, Finset.mem_range.2 hi, he⟩
  have h1 := Finset.card_le_card hsub
  have h2 : ((Finset.range k).image s).card ≤ k := le_trans Finset.card_image_le (by simp)
  simp at h1
  omega

variable {D s c k}

/-- Every similarity is a real number and at most 768. -/
theorem Good.real (h : Good D) (n : Fin 8) (t : Fin 2048) : ∃ x : ℝ, D n t = (x : EReal) ∧ x ≤ 768 := by
  rcases h.event t with h1 | h1
  · exact ⟨-100000, h1 n, by norm_num⟩
  · obtain ⟨x, hx, _, h3⟩ := h1 n
    exact ⟨x, hx, h3⟩

/-- When a used subpatch wins a pick, its event is not an allowed one. -/
theorem not_allow_of_used (h : Good D) (hk : k < 8) (hs : FirstMax (eventTop D s c k) (s k))
    (hc : FirstMax (eventRow D c k (s k)) (c k)) (hu : used s k (s k)) : ¬ allow c k (c k) := by
  classical
  intro ha
  obtain ⟨u, hun⟩ := exists_unused s k hk
  have hle := hs.1 u
  have hT : eventTop D s c k (s k) = rowMax (D (s k)) + NEG := by unfold eventTop; rw [if_pos hu]
  have hU : D u (c k) ≤ eventTop D s c k u := by
    unfold eventTop
    rw [if_neg hun]
    refine le_trans (le_of_eq ?_) (le_rowMax _ (c k))
    unfold eventRow
    rw [if_pos ha, add_zero]
  obtain ⟨m, hm⟩ := exists_eq_rowMax (D (s k))
  obtain ⟨y, hy, hy'⟩ := h.real (s k) m
  have hle' : D u (c k) ≤ ((y - 100000 : ℝ) : EReal) := by
    refine le_trans hU (le_trans hle (le_of_eq ?_))
    rw [hT, ← hm, hy, NEG, ← EReal.coe_add]
    congr 1
  rcases h.event (c k) with hneg | hreal
  · rw [hneg u, NEG, EReal.coe_le_coe_iff] at hle'
    have hcm := hc.1 m
    unfold eventRow at hcm
    rw [if_pos ha, add_zero, hneg (s k), hy] at hcm
    have hpen : ((y - 100000 : ℝ) : EReal) ≤ ((y : ℝ) : EReal) + (if allow c k m then 0 else NEG) := by
      split
      · rw [add_zero, EReal.coe_le_coe_iff]; linarith
      · rw [NEG, ← EReal.coe_add, EReal.coe_le_coe_iff]; linarith
    have h2 := le_trans hpen hcm
    rw [NEG, EReal.coe_le_coe_iff] at h2
    have hy0 : y = 0 := by linarith
    rcases h.tie with ht | ht
    · obtain ⟨x, hx, hx1, _⟩ := ht (c k) u
      rw [hneg u, NEG, EReal.coe_eq_coe_iff] at hx
      linarith
    · exact ht (s k) (by rw [← hm, hy, hy0]; rfl)
  · obtain ⟨x, hx, hx1, _⟩ := hreal u
    rw [hx, EReal.coe_le_coe_iff] at hle'
    linarith

/-- One pick under the event penalty is a pick under the pair penalty, with the same greatest value. -/
theorem pick_pair (h : Good D) (hk : k < 8) (hs : FirstMax (eventTop D s c k) (s k))
    (hc : FirstMax (eventRow D c k (s k)) (c k)) :
    FirstMax (fun n => rowMax (pairRow D s c k n)) (s k) ∧ FirstMax (pairRow D s c k (s k)) (c k)
      ∧ pairRow D s c k (s k) (c k) = eventRow D c k (s k) (c k) := by
  classical
  have h1 : (fun n => rowMax (pairRow D s c k n)) = eventTop D s c k := funext fun n => eventTop_eq D s c k n
  have hle : ∀ t, pairRow D s c k (s k) t ≤ eventRow D c k (s k) t := by
    intro t
    unfold pairRow eventRow
    gcongr
    have hN : NEG ≤ 0 := by
      rw [NEG, show (0 : EReal) = ((0 : ℝ) : EReal) from rfl, EReal.coe_le_coe_iff]; norm_num
    by_cases ha : allow c k t
    · rw [if_pos ha]; split <;> simp [hN]
    · rw [if_neg ha, if_pos (Or.inr ha)]
  have heq : pairRow D s c k (s k) (c k) = eventRow D c k (s k) (c k) := by
    unfold pairRow eventRow
    by_cases hu : used s k (s k)
    · rw [if_pos (Or.inl hu), if_neg (not_allow_of_used h hk hs hc hu)]
    · by_cases ha : allow c k (c k)
      · rw [if_pos ha, if_neg (by tauto)]
      · rw [if_neg ha, if_pos (Or.inr ha)]
  refine ⟨h1 ▸ hs, ⟨fun t => ?_, fun t ht => ?_⟩, heq⟩
  · rw [heq]; exact (hle t).trans (hc.1 t)
  · rw [heq]; exact (hle t).trans_lt (hc.2 t ht)

variable {s' : ℕ → Fin 8} {c' : ℕ → Fin 2048}

/-- Used is a matter of the picks before. -/
theorem used_congr (h : ∀ i, i < k → s i = s' i) (n : Fin 8) : used s k n ↔ used s' k n :=
  ⟨fun ⟨i, hi, he⟩ => ⟨i, hi, h i hi ▸ he⟩, fun ⟨i, hi, he⟩ => ⟨i, hi, (h i hi).trans he⟩⟩

/-- Allowed is a matter of the picks before. -/
theorem allow_congr (h : ∀ i, i < k → c i = c' i) (t : Fin 2048) : allow c k t ↔ allow c' k t := by
  unfold allow
  rcases Nat.eq_zero_or_pos k with h0 | h0
  · simp [h0]
  · rw [h (k - 1) (by omega)]
    have : (∀ i, i < k → c i ≠ t) ↔ ∀ i, i < k → c' i ≠ t :=
      forall₂_congr fun i hi => by rw [h i hi]
    rw [this]

/-- The penalised similarities are a matter of the picks before. -/
theorem pairRow_congr (hs : ∀ i, i < k → s i = s' i) (hc : ∀ i, i < k → c i = c' i) :
    pairRow D s c k = pairRow D s' c' k := by
  classical
  funext n t
  unfold pairRow
  simp only [used_congr hs n, allow_congr hc t]

/-- The two searches pick the same subpatch and the same event with the same value at each of the eight picks. -/
theorem runs_agree (h : Good D) (hE : EventRun D s c) (hP : PairRun D s' c') :
    ∀ k, k < 8 → s k = s' k ∧ c k = c' k
      ∧ rowMax (eventRow D c k (s k)) = rowMax (fun n => rowMax (pairRow D s' c' k n)) := by
  intro k
  induction k using Nat.strong_induction_on with
  | _ k ih =>
    intro hk
    obtain ⟨hs, hc⟩ := hE k hk
    obtain ⟨hs', hc'⟩ := hP k hk
    obtain ⟨p1, p2, p3⟩ := pick_pair h hk hs hc
    have hrow : pairRow D s c k = pairRow D s' c' k :=
      pairRow_congr (fun i hi => (ih i hi (by omega)).1) (fun i hi => (ih i hi (by omega)).2.1)
    rw [hrow] at p1 p2 p3
    have e1 := p1.unique hs'
    rw [e1] at p2 p3 hc
    have e2 := p2.unique hc'
    refine ⟨e1, e2, ?_⟩
    rw [e1, hc.rowMax_eq, ← p3, e2]
    exact (hs'.rowMax_eq.trans hc'.rowMax_eq).symm

end Search

/-! ## Stable sorting -/

section Sorting

variable {n : ℕ}

/-- Before, ties by position. -/
def lexBefore (B : Fin n → Fin n → Bool) (a b : Fin n) : Bool := B a b || (!B b a && decide (a < b))

/-- A stable sort of positions in order is a sort with ties by position. -/
theorem stableSort_lex (B : Fin n → Fin n → Bool) (l : List (Fin n)) (hl : l.Pairwise (· < ·)) :
    stableSort B l = stableSort (lexBefore B) l := by
  induction l with
  | nil => rfl
  | cons a l ih =>
    rw [List.pairwise_cons] at hl
    unfold stableSort
    rw [← ih hl.2]
    refine insertBefore_congr _ _ a _ fun b hb => ?_
    have hab : a < b := hl.1 b ((perm_stableSort B l).mem_iff.1 hb)
    simp [lexBefore, not_lt.2 hab.le]

/-- The stable sort's positions run upwards in the order with ties by position. -/
theorem sortedFrom_lex (B : Fin n → Fin n → Bool) (hasymm : ∀ a b, B a b = true → B b a = false)
    (hnt : ∀ a b c, B a b = false → B b c = false → B a c = false) (i j : Fin n) (hij : i < j) :
    lexBefore B (sortedFrom B j) (sortedFrom B i) = false := by
  have h := sortedFrom_noInversion (lexBefore B) (lexBefore B) (fun a b hab => ?_) (fun _ _ h => h) (fun a b c h1 h2 => ?_) i j hij
  · have hs : sortedFrom B = sortedFrom (lexBefore B) := by
      funext k
      unfold sortedFrom
      have : sortPositions n B = sortPositions n (lexBefore B) := stableSort_lex B _ (List.pairwise_lt_finRange n)
      simp only [List.get_eq_getElem, this, Fin.val_cast]
    rw [hs]
    exact h
  · unfold lexBefore at hab ⊢
    by_cases hb : B a b = true
    · simp [hb, hasymm a b hb]
    · have hb' : B a b = false := by simpa using hb
      simp [hb'] at hab ⊢
      exact ⟨hab.1, hab.2.le⟩
  · unfold lexBefore at h1 h2 ⊢
    simp only [Bool.or_eq_false_iff, Bool.and_eq_false_imp, Bool.not_eq_true', decide_eq_false_iff_not, not_lt] at h1 h2 ⊢
    refine ⟨hnt a b c h1.1 h2.1, fun hca => ?_⟩
    have hcb : B c b = false := by
      cases hx : B c b
      · rfl
      · have : B b a = false := by
          cases hy : B b a
          · rfl
          · have h3 := hnt c a b hca h1.1
            rw [h3] at hx; exact absurd hx (by simp)
        have h4 := hnt c a b hca h1.1
        rw [h4] at hx; exact absurd hx (by simp)
    have hba : B b a = false := hnt b c a h2.1 hca
    exact (h2.2 hcb).trans (h1.2 hba)

/-- Before, ties by position, is asymmetric. -/
theorem lexBefore_asymm (B : Fin n → Fin n → Bool) (hasymm : ∀ a b, B a b = true → B b a = false) (a b : Fin n)
    (hab : lexBefore B a b = true) : lexBefore B b a = false := by
  unfold lexBefore at hab ⊢
  by_cases hb : B a b = true
  · simp [hb, hasymm a b hb]
  · have hb' : B a b = false := by simpa using hb
    simp [hb'] at hab ⊢
    exact ⟨hab.1, hab.2.le⟩

/-- Of two positions one is before the other. -/
theorem lexBefore_total (B : Fin n → Fin n → Bool) (a b : Fin n) (hne : a ≠ b) (h : lexBefore B a b = false) :
    lexBefore B b a = true := by
  unfold lexBefore at h ⊢
  simp only [Bool.or_eq_false_iff, Bool.and_eq_false_imp, Bool.not_eq_true', decide_eq_false_iff_not, not_lt] at h
  by_cases hb : B b a = true
  · simp [hb]
  · have hb' : B b a = false := by simpa using hb
    simp [h.1, lt_of_le_of_ne (h.2 hb') (Ne.symm hne)]

/-- The number of positions before the one sorted to place `q` is `q`. -/
theorem card_before (B : Fin n → Fin n → Bool) (hasymm : ∀ a b, B a b = true → B b a = false)
    (hnt : ∀ a b c, B a b = false → B b c = false → B a c = false) (q : Fin n) :
    (Finset.univ.filter fun j => lexBefore B j (sortedFrom B q) = true).card = q.val := by
  have : (Finset.univ.filter fun j => lexBefore B j (sortedFrom B q) = true) = (Finset.Iio q).image (sortedFrom B) := by
    ext j
    simp only [Finset.mem_filter, Finset.mem_univ, true_and, Finset.mem_image, Finset.mem_Iio]
    constructor
    · intro h
      obtain ⟨i, rfl⟩ := sortedFrom_surjective B j
      refine ⟨i, ?_, rfl⟩
      by_contra hle
      rcases (not_lt.1 hle).lt_or_eq with hl | he
      · rw [sortedFrom_lex B hasymm hnt q i hl] at h; exact absurd h (by simp)
      · rw [he] at h
        have := lexBefore_asymm B hasymm _ _ h
        rw [h] at this; exact absurd this (by simp)
    · rintro ⟨i, hi, rfl⟩
      exact lexBefore_total B _ _ (fun he => (ne_of_lt hi) (sortedFrom_injective B he).symm)
        (sortedFrom_lex B hasymm hnt i q hi)
  rw [this, Finset.card_image_of_injective _ (sortedFrom_injective B), Fin.card_Iio]

/-- The position a stable descending sort of extended reals puts first is the first of the greatest. -/
theorem sortedFrom_gt_zero [NeZero n] (f : Fin n → EReal) (B : Fin n → Fin n → Bool)
    (hB : ∀ a b, B a b = decide (f b < f a)) : FirstMax f (sortedFrom B 0) := by
  have hasymm : ∀ a b, B a b = true → B b a = false := by
    intro a b; rw [hB, hB]; simp only [decide_eq_true_eq, decide_eq_false_iff_not]; exact fun h => not_lt.2 h.le
  have hnt : ∀ a b c, B a b = false → B b c = false → B a c = false := by
    intro a b c; rw [hB, hB, hB]; simp only [decide_eq_false_iff_not, not_lt]; exact fun h1 h2 => h1.trans h2
  have key : ∀ t, t ≠ sortedFrom B 0 → lexBefore B t (sortedFrom B 0) = false := by
    intro t ht
    obtain ⟨i, rfl⟩ := sortedFrom_surjective B t
    refine sortedFrom_lex B hasymm hnt 0 i (lt_of_le_of_ne (Fin.zero_le i) fun h => ht (by rw [← h]))
  refine ⟨fun t => ?_, fun t ht => ?_⟩
  · by_cases he : t = sortedFrom B 0
    · rw [he]
    · have := key t he
      unfold lexBefore at this
      rw [hB] at this
      simp only [Bool.or_eq_false_iff, decide_eq_false_iff_not, not_lt] at this
      exact this.1
  · have := key t (ne_of_lt ht)
    unfold lexBefore at this
    rw [hB, hB] at this
    simp only [Bool.or_eq_false_iff, Bool.and_eq_false_imp, Bool.not_eq_true', decide_eq_false_iff_not, not_lt] at this
    by_contra hge
    exact absurd ht (not_lt.2 (this.2 (not_lt.1 hge)))

end Sorting

end Cert.Match
-- ==== Proof.KernelPick.lean ====
module

public import proofs.«01_k».proof.Proof.BodyTail
public import proofs.«01_k».proof.Proof.Pick

@[expose] public section

/-!
The body's rounds read at one prototype: they are the greedy search with a penalty on events.
-/

set_option maxRecDepth 16384

noncomputable section

namespace Cert.MatchRun

open Cert.KernelIdeal Cert.KernelIdeal.Gen
open Idealize.ShloMosaic Idealize.ShloMosaic.TcCoe Idealize.SL.Sem Cert.Match

/-! ## Words -/

/-- The and of two bits is set when both are. -/
theorem and_one_iff (a b : BitVec 1) : IntOp.andi a b = 1#1 ↔ a = 1#1 ∧ b = 1#1 := by
  revert a b; decide
/-- The complement of a bit is set when the bit is not. -/
theorem not_one_iff (a : BitVec 1) : IntOp.xori a 1#1 = 1#1 ↔ ¬ a = 1#1 := by
  revert a; decide
/-- A small number's word, read with its sign, is the number. -/
theorem toInt_small (k : ℕ) (hk : k < 2 ^ 31) : (BitVec.ofNat 32 k).toInt = (k : ℤ) := by
  have h1 : (BitVec.ofNat 32 k).toNat = k := by rw [BitVec.toNat_ofNat]; omega
  rw [BitVec.toInt_eq_toNat_of_lt (by omega), h1]
/-- Small numbers have the same word only if they are equal. -/
theorem word_inj (a b : ℕ) (ha : a < 2 ^ 31) (hb : b < 2 ^ 31) : BitVec.ofNat 32 a = BitVec.ofNat 32 b ↔ a = b := by
  constructor
  · intro h
    have := congrArg BitVec.toInt h
    rw [toInt_small a ha, toInt_small b hb] at this
    exact_mod_cast this
  · exact fun h => h ▸ rfl
/-- The bit of a Boolean is set when it is true. -/
theorem bit_iff (b : Bool) : BitVec.ofBool b = 1#1 ↔ b = true := by cases b <;> decide
/-- Equality of small numbers, in words. -/
theorem eq_one_iff (a b : ℕ) (ha : a < 2 ^ 31) (hb : b < 2 ^ 31) :
    IntOp.cmpi .eq (BitVec.ofNat 32 a) (BitVec.ofNat 32 b) = 1#1 ↔ a = b := by
  rw [← word_inj a b ha hb]
  show BitVec.ofBool _ = 1#1 ↔ _
  rw [bit_iff, beq_iff_eq]
/-- Inequality of small numbers, in words. -/
theorem ne_one_iff (a b : ℕ) (ha : a < 2 ^ 31) (hb : b < 2 ^ 31) :
    IntOp.cmpi .ne (BitVec.ofNat 32 a) (BitVec.ofNat 32 b) = 1#1 ↔ a ≠ b := by
  rw [ne_eq, ← word_inj a b ha hb]
  show BitVec.ofBool _ = 1#1 ↔ _
  rw [bit_iff, bne_iff_ne]
/-- Less than, of small numbers, in words. -/
theorem slt_one_iff (a b : ℕ) (ha : a < 2 ^ 31) (hb : b < 2 ^ 31) :
    IntOp.cmpi .slt (BitVec.ofNat 32 a) (BitVec.ofNat 32 b) = 1#1 ↔ a < b := by
  show BitVec.ofBool (decide ((BitVec.ofNat 32 a).toInt < (BitVec.ofNat 32 b).toInt)) = 1#1 ↔ _
  rw [bit_iff, decide_eq_true_eq, toInt_small a ha, toInt_small b hb]
  exact Int.ofNat_lt
/-- Greater than, of small numbers, in words. -/
theorem sgt_one_iff (a b : ℕ) (ha : a < 2 ^ 31) (hb : b < 2 ^ 31) :
    IntOp.cmpi .sgt (BitVec.ofNat 32 a) (BitVec.ofNat 32 b) = 1#1 ↔ b < a := by
  show BitVec.ofBool (decide ((BitVec.ofNat 32 b).toInt < (BitVec.ofNat 32 a).toInt)) = 1#1 ↔ _
  rw [bit_iff, decide_eq_true_eq, toInt_small a ha, toInt_small b hb]
  exact Int.ofNat_lt
/-- At most sixteen apart, in words. -/
theorem near_one_iff (x t : Fin 2048) :
    IntOp.cmpi .sle (IntOp.absi (IntOp.subi (BitVec.ofNat 32 t.val) (BitVec.ofNat 32 x.val))) 16#32 = 1#1 ↔ near x t := by
  have hsub : (IntOp.subi (BitVec.ofNat 32 t.val) (BitVec.ofNat 32 x.val)).toInt = (t.val : ℤ) - x.val := by
    show (BitVec.ofNat 32 t.val - BitVec.ofNat 32 x.val).toInt = _
    rw [BitVec.toInt_sub, toInt_small _ (by omega), toInt_small _ (by omega), Int.bmod_eq_of_le] <;> omega
  have habs : (IntOp.absi (IntOp.subi (BitVec.ofNat 32 t.val) (BitVec.ofNat 32 x.val))).toInt = |(t.val : ℤ) - x.val| := by
    rw [← hsub]
    show (BitVec.abs _).toInt = _
    rw [BitVec.toInt_abs_eq_natAbs_of_ne_intMin]
    · exact Int.natCast_natAbs _
    · intro h
      have h2 := congrArg BitVec.toInt h
      rw [hsub] at h2
      have h3 : (BitVec.intMin 32).toInt = -2147483648 := by decide
      rw [h3] at h2
      omega
  show BitVec.ofBool (decide (_ ≤ (16#32).toInt)) = 1#1 ↔ _
  rw [bit_iff, decide_eq_true_eq, habs]
  have h16 : (16#32).toInt = 16 := by decide
  rw [h16, abs_le]
  unfold near
  omega

/-- An indicator bit that is set, as a number. -/
theorem ind_one (b : BitVec 1) (h : b = 1#1) : FloatOps.sitofp (F := Ideal) .f32 (BitVec.setWidth 32 b) = (1 : EReal) := by
  subst h
  show (((BitVec.setWidth 32 1#1).toInt : ℝ) : EReal) = 1
  rw [show (BitVec.setWidth 32 1#1).toInt = 1 by decide]; simp
/-- An indicator bit that is not set, as a number. -/
theorem ind_zero (b : BitVec 1) (h : ¬ b = 1#1) : FloatOps.sitofp (F := Ideal) .f32 (BitVec.setWidth 32 b) = (0 : EReal) := by
  have : b = 0#1 := by revert b; decide
  subst this
  show (((BitVec.setWidth 32 0#1).toInt : ℝ) : EReal) = 0
  rw [show (BitVec.setWidth 32 0#1).toInt = 0 by decide]; simp

/-- A selection by a set bit. -/
theorem select_one {α : Type} (x : BitVec 1) (a b : α) (h : x = 1#1) : Scalar.select x a b = a := by
  subst h; rfl
/-- A selection by a bit that is not set. -/
theorem select_zero {α : Type} (x : BitVec 1) (a b : α) (h : ¬ x = 1#1) : Scalar.select x a b = b := if_neg h

/-! ## One round -/

section Round

variable (v22 : FVec Ideal S8x128x2048 .f32) (v66 : FVec Ideal S128x2048 .f32) (v82 : IVec S8x128 1)
  (v55 : IVec S128x2048 1) (v57 : IVec S8x128 1) (v29 : FVec Ideal S8x128 .f32) (v35 : IVec S8x128 32) (p : Fin 128)

/-- The similarities of prototype `p`. -/
def DAt (n : Fin 8) (t : Fin 2048) : EReal := v22 (ix3 n p t)

/-- The row an indicator extracts. -/
theorem row_sum (q : Fin 8) (h : ∀ n, v82 (ix2 n p) = 1#1 ↔ n = q) (t : Fin 2048) :
    (∑ x : Fin 8, v22 (ix3 x p t) * FloatOps.sitofp (F := Ideal) FTy.f32 (BitVec.setWidth 32 (v82 (ix2 x p))) : EReal)
      = DAt v22 p q t := by
  rw [Finset.sum_eq_single q]
  · rw [ind_one _ ((h q).2 rfl)]
    exact mul_one (v22 (ix3 q p t) : EReal)
  · intro b _ hb
    rw [ind_zero _ (fun hx => hb ((h b).1 hx))]
    exact mul_zero (v22 (ix3 b p t) : EReal)
  · exact fun hx => absurd (Finset.mem_univ q) hx

/-- A round's row: the winner's similarities and the penalty. -/
theorem pay22_at (q : Fin 8) (h : ∀ n, v82 (ix2 n p) = 1#1 ↔ n = q) (t : Fin 2048) :
    k0_pay22 v22 v66 v82 (ix2 p t) = (DAt v22 p q t + v66 (ix2 p t) : EReal) := by
  pointwise [k0_pay22]
  rw [row_sum v22 v82 p q h t]

/-- A round's value. -/
theorem pay23_at : k0_pay23 v22 v66 v82 (ix2 p 0) = rowMax fun t : Fin 2048 => k0_pay22 v22 v66 v82 (ix2 p t) := by
  pointwise [k0_pay23]
  rw [ofBits_bot]
  rfl

/-- A round's event. -/
theorem pay24_at (c : Fin 2048) (hc : FirstMax (fun t : Fin 2048 => k0_pay22 v22 v66 v82 (ix2 p t)) c) :
    k0_pay24 v22 evs v66 v82 (ix2 p 0) = BitVec.ofNat 32 c.val := by
  pointwise [k0_pay24]
  rw [pay23_at]
  exact fold_minsi_first (by norm_num) (fun t : Fin 2048 => k0_pay22 v22 v66 v82 (ix2 p t)) _ (fun t => rfl) c hc

/-- The events left after a round. -/
theorem pay25_at (c t : Fin 2048) (hc : k0_pay24 v22 evs v66 v82 (ix2 p 0) = BitVec.ofNat 32 c.val) :
    k0_pay25 v22 evs v55 v66 v82 (ix2 p t) = 1#1 ↔ v55 (ix2 p t) = 1#1 ∧ c ≠ t := by
  pointwise [k0_pay25]
  rw [hc, and_one_iff, ne_one_iff _ _ (by omega) (by omega), ne_comm, ← Fin.ext_iff.ne]

/-- The subpatches left after a round. -/
theorem pay26_at (q n : Fin 8) (h : ∀ n, v82 (ix2 n p) = 1#1 ↔ n = q) :
    k0_pay26 v57 v82 (ix2 n p) = 1#1 ↔ v57 (ix2 n p) = 1#1 ∧ n ≠ q := by
  pointwise [k0_pay26]
  rw [and_one_iff, not_one_iff, h]

open Classical in
/-- The penalty after a round. -/
theorem pay27_at (c t : Fin 2048) (hc : k0_pay24 v22 evs v66 v82 (ix2 p 0) = BitVec.ofNat 32 c.val) :
    k0_pay27 v22 evs v55 v66 v82 (ix2 p t)
      = if ((v55 (ix2 p t) = 1#1 ∧ c ≠ t) ∧ near c t) ∧ c.val < t.val then (0 : EReal) else NEG := by
  have h25 := pay25_at v22 v66 v82 v55 p c t hc
  pointwise [k0_pay27]
  rw [hc]
  have hb : IntOp.andi (IntOp.andi (k0_pay25 v22 evs v55 v66 v82 (ix2 p t))
      (IntOp.cmpi CmpIPredicate.sle (IntOp.absi (IntOp.subi (BitVec.ofNat 32 ↑t) (BitVec.ofNat 32 ↑c))) 16#32))
      (IntOp.cmpi CmpIPredicate.sgt (BitVec.ofNat 32 ↑t) (BitVec.ofNat 32 ↑c)) = 1#1
      ↔ ((v55 (ix2 p t) = 1#1 ∧ c ≠ t) ∧ near c t) ∧ c.val < t.val := by
    rw [and_one_iff, and_one_iff, h25, near_one_iff, sgt_one_iff _ _ (by omega) (by omega)]
  by_cases hP : ((v55 (ix2 p t) = 1#1 ∧ c ≠ t) ∧ near c t) ∧ c.val < t.val
  · rw [if_pos hP, select_one _ _ _ (hb.2 hP), ofBits_nzero]
  · rw [if_neg hP, select_zero _ _ _ (fun hx => hP (hb.1 hx)), ofBits_NEG]

/-- The next winner, of the greatest entries. -/
theorem pay29_at (f : Fin 8 → EReal)
    (hf : ∀ n, (k0_pay26 v57 v82 (ix2 n p) = 1#1
        → f n = rowMax fun t : Fin 2048 => DAt v22 p n t + k0_pay27 v22 evs v55 v66 v82 (ix2 p t))
      ∧ (¬ k0_pay26 v57 v82 (ix2 n p) = 1#1 → f n = v29 (ix2 n p))) (q : Fin 8) (hq : FirstMax f q) :
    k0_pay29 v22 subs evs v29 v55 v57 v66 v82 (ix2 0 p) = BitVec.ofNat 32 q.val := by
  have hsel : ∀ x : Fin 8, Scalar.select (k0_pay26 v57 v82 (ix2 x p))
      (Finset.fold max ⊥
        (fun t : Fin 2048 => v22 (ix3 x p t) + k0_pay27 v22 evs v55 v66 v82 (ix2 p t)) Finset.univ)
      (v29 (ix2 x p)) = f x := by
    intro x
    by_cases hx : k0_pay26 v57 v82 (ix2 x p) = 1#1
    · rw [select_one _ _ _ hx, (hf x).1 hx]; rfl
    · rw [select_zero _ _ _ hx, (hf x).2 hx]
  pointwise [k0_pay29]
  simp only [ofBits_bot, hsel]
  exact fold_minsi_first (by norm_num) f _ (fun t => rfl) q hq

/-- Its indicator. -/
theorem pay30_at (q n : Fin 8) (hq : k0_pay29 v22 subs evs v29 v55 v57 v66 v82 (ix2 0 p) = BitVec.ofNat 32 q.val) :
    k0_pay30 v22 subs evs v29 v55 v57 v66 v82 (ix2 n p) = 1#1 ↔ n = q := by
  pointwise [k0_pay30]
  rw [hq, eq_one_iff _ _ (by omega) (by omega), Fin.ext_iff]

/-! ## The first pick -/

/-- The first winner. -/
theorem pay11_at (f : Fin 8 → EReal)
    (hv : ∀ n : Fin 8, v35 (ix2 n p) = if f n = rowMax f then BitVec.ofNat 32 n.val else 8#32) (q : Fin 8)
    (hq : FirstMax f q) : k0_pay11 v35 (ix2 0 p) = BitVec.ofNat 32 q.val := by
  pointwise [k0_pay11]
  exact fold_minsi_first (by norm_num) f _ hv q hq

/-- The first pick's subpatch as a row of bits. -/
theorem pay12_at (q n : Fin 8) (hq : k0_pay11 v35 (ix2 0 p) = BitVec.ofNat 32 q.val) :
    k0_pay12 subs v35 (ix2 n p) = 1#1 ↔ n = q := by
  pointwise [k0_pay12]
  rw [hq, eq_one_iff _ _ (by omega) (by omega), Fin.ext_iff]

/-- The similarities of the subpatch picked. -/
theorem pay13_at (q : Fin 8) (h : ∀ n, k0_pay12 subs v35 (ix2 n p) = 1#1 ↔ n = q) (t : Fin 2048) :
    k0_pay13 v22 subs v35 (ix2 p t) = DAt v22 p q t := by
  pointwise [k0_pay13]
  exact row_sum v22 (k0_pay12 subs v35) p q h t

/-- The first pick's value is their greatest. -/
theorem pay14_at : k0_pay14 v22 subs v35 (ix2 p 0) = rowMax fun t : Fin 2048 => k0_pay13 v22 subs v35 (ix2 p t) := by
  pointwise [k0_pay14]
  rw [ofBits_bot]
  rfl

/-- The first pick's event is the first where they are greatest. -/
theorem pay15_at (c : Fin 2048) (hc : FirstMax (fun t : Fin 2048 => k0_pay13 v22 subs v35 (ix2 p t)) c) :
    k0_pay15 v22 subs evs v35 (ix2 p 0) = BitVec.ofNat 32 c.val := by
  pointwise [k0_pay15]
  rw [pay14_at]
  exact fold_minsi_first (by norm_num) (fun t : Fin 2048 => k0_pay13 v22 subs v35 (ix2 p t)) _ (fun t => rfl) c hc

/-- The events left after the first pick. -/
theorem pay16_at (c t : Fin 2048) (hc : k0_pay15 v22 subs evs v35 (ix2 p 0) = BitVec.ofNat 32 c.val) :
    k0_pay16 v22 subs evs v35 (ix2 p t) = 1#1 ↔ c ≠ t := by
  pointwise [k0_pay16]
  rw [hc, ne_one_iff _ _ (by omega) (by omega), ne_comm, ← Fin.ext_iff.ne]

/-- The subpatches left after the first pick. -/
theorem pay17_at (q n : Fin 8) (h : ∀ n, k0_pay12 subs v35 (ix2 n p) = 1#1 ↔ n = q) :
    k0_pay17 subs k0_pay7 v35 (ix2 n p) = 1#1 ↔ n ≠ q := by
  pointwise [k0_pay17, k0_pay7]
  rw [and_one_iff, not_one_iff, h]
  exact and_iff_right rfl

open Classical in
/-- The penalty after the first pick: none at the events left that are near. -/
theorem pay18_at (c t : Fin 2048) (hc : k0_pay15 v22 subs evs v35 (ix2 p 0) = BitVec.ofNat 32 c.val) :
    k0_pay18 v22 subs evs v35 (ix2 p t) = if c ≠ t ∧ near c t then (0 : EReal) else NEG := by
  have h16 := pay16_at v22 v35 p c t hc
  pointwise [k0_pay18]
  rw [hc]
  have hb : IntOp.andi (k0_pay16 v22 subs evs v35 (ix2 p t))
      (IntOp.cmpi CmpIPredicate.sle (IntOp.absi (IntOp.subi (BitVec.ofNat 32 ↑t) (BitVec.ofNat 32 ↑c))) 16#32) = 1#1
      ↔ c ≠ t ∧ near c t := by
    rw [and_one_iff, h16, near_one_iff]
  by_cases hP : c ≠ t ∧ near c t
  · rw [if_pos hP, select_one _ _ _ (hb.2 hP), ofBits_nzero]
  · rw [if_neg hP, select_zero _ _ _ (fun hx => hP (hb.1 hx)), ofBits_NEG]

/-- The second pick's subpatch is the first of the best under the penalty. -/
theorem pay20_at (f : Fin 8 → EReal)
    (hf : ∀ n, (k0_pay17 subs k0_pay7 v35 (ix2 n p) = 1#1
        → f n = rowMax fun t : Fin 2048 => DAt v22 p n t + k0_pay18 v22 subs evs v35 (ix2 p t))
      ∧ (¬ k0_pay17 subs k0_pay7 v35 (ix2 n p) = 1#1 → f n = v29 (ix2 n p))) (q : Fin 8) (hq : FirstMax f q) :
    k0_pay20 v22 subs evs k0_pay7 v29 v35 (ix2 0 p) = BitVec.ofNat 32 q.val := by
  have hsel : ∀ x : Fin 8, Scalar.select (k0_pay17 subs k0_pay7 v35 (ix2 x p))
      (Finset.fold max ⊥
        (fun t : Fin 2048 => v22 (ix3 x p t) + k0_pay18 v22 subs evs v35 (ix2 p t)) Finset.univ)
      (v29 (ix2 x p)) = f x := by
    intro x
    by_cases hx : k0_pay17 subs k0_pay7 v35 (ix2 x p) = 1#1
    · rw [select_one _ _ _ hx, (hf x).1 hx]; rfl
    · rw [select_zero _ _ _ hx, (hf x).2 hx]
  pointwise [k0_pay20]
  simp only [ofBits_bot, hsel]
  exact fold_minsi_first (by norm_num) f _ (fun t => rfl) q hq

/-- The second pick's subpatch as a row of bits. -/
theorem pay21_at (q n : Fin 8) (hq : k0_pay20 v22 subs evs k0_pay7 v29 v35 (ix2 0 p) = BitVec.ofNat 32 q.val) :
    k0_pay21 v22 subs evs k0_pay7 v29 v35 (ix2 n p) = 1#1 ↔ n = q := by
  pointwise [k0_pay21]
  rw [hq, eq_one_iff _ _ (by omega) (by omega), Fin.ext_iff]

/-- The first pick's subpatch as a column. -/
theorem pay19_at : k0_pay19 v35 (ix2 p 0) = k0_pay11 v35 (ix2 0 p) := by
  pointwise [k0_pay19]
/-- A row as a column. -/
theorem pay28_at (v : IVec S1x128 32) : k0_pay28 v (ix2 p 0) = v (ix2 0 p) := by
  pointwise [k0_pay28]

end Round

end Cert.MatchRun
-- ==== Proof.RefPick.lean ====
module

public import proofs.«01_k».proof.Proof.Gen.ReferenceIdeal.StepRun
public import proofs.«01_k».proof.Proof.KernelPick

/-! The reference's step read at one element: the penalised similarities, the best event of every subpatch, the best
subpatch, and the masks and slots the step leaves. -/

@[expose] public section

set_option maxRecDepth 16384

noncomputable section

namespace Cert.MatchRef

open Cert.ReferenceIdeal Cert.ReferenceIdeal.Gen Cert.ReferenceIdeal.Step
open Idealize.ShloMosaic Idealize.ShloMosaic.TcCoe Idealize.SL.Sem Cert.Match
open Cert.MatchRun (and_one_iff toInt_small word_inj eq_one_iff slt_one_iff sgt_one_iff near_one_iff select_one select_zero)

/-! ## Single operations -/

/-- A bit converted to a number, set. -/
theorem uind_one (x : BitVec 1) (h : x = 1#1) : FloatOps.uitofp (F := Ideal) .f32 x = (1 : EReal) := by
  subst h
  show (((1#1 : BitVec 1).toNat : ℝ) : EReal) = 1
  simp
/-- A bit converted to a number, clear. -/
theorem uind_zero (x : BitVec 1) (h : ¬ x = 1#1) : FloatOps.uitofp (F := Ideal) .f32 x = (0 : EReal) := by
  have : x = 0#1 := by revert x; decide
  subst this
  show (((0#1 : BitVec 1).toNat : ℝ) : EReal) = 0
  simp

/-- The reference's gather along the last axis reads the row at the given place. -/
theorem gather_at {α : Type} (x : S4x256x8.Idx → α) (idx : IVec S4x256x1x1 32) (b : Fin 4) (p : Fin 256) (q : Fin 8)
    (h : idx (ix4 b p 0 0) = BitVec.ofNat 32 q.val) :
    Host.gather gather_S4x256x8_S4x256x1x1_S4x256x1_n_2_01_01_2_3_111 x idx (ix3 b p 0) = x (ix3 b p q) := by
  have hob : ∀ a : Fin 3, a.val < 2 → a ∈ gather_S4x256x8_S4x256x1x1_S4x256x1_n_2_01_01_2_3_111.operandBatchingDims := by
    intro a
    show a.val < 2 → a ∈ ([0, 1] : List (Fin 3))
    revert a
    decide
  unfold Host.gather
  refine congrArg x (funext fun a => Fin.ext ?_)
  match a with
  | ⟨0, _⟩ =>
    show GatherDims.start _ _ _ _ + GatherDims.batchCoord _ _ _ + GatherDims.offCoord _ _ _ = _
    rw [GatherDims.start_batching _ _ _ _ (hob ⟨0, by decide⟩ (by decide : 0 < 2)), GatherDims.offCoord_eq_zero _ _ _ (fun hk => ((GatherDims.mem_sKept _ _).1 hk).2 (hob ⟨0, by decide⟩ (by decide : 0 < 2))), Nat.zero_add, Nat.add_zero]
    rfl
  | ⟨1, _⟩ =>
    show GatherDims.start _ _ _ _ + GatherDims.batchCoord _ _ _ + GatherDims.offCoord _ _ _ = _
    rw [GatherDims.start_batching _ _ _ _ (hob ⟨1, by decide⟩ (by decide : 1 < 2)), GatherDims.offCoord_eq_zero _ _ _ (fun hk => ((GatherDims.mem_sKept _ _).1 hk).2 (hob ⟨1, by decide⟩ (by decide : 1 < 2))), Nat.zero_add, Nat.add_zero]
    rfl
  | ⟨2, _⟩ =>
    show min (idx _).toInt.toNat 7 + 0 + 0 = q.val
    have e : ∀ i : S4x256x1x1.Idx, i = ix4 b p 0 0 → min (idx i).toInt.toNat 7 + 0 + 0 = q.val := by
      rintro _ rfl
      rw [h, toInt_small _ (by omega)]
      omega
    apply e
    funext a
    match a with
    | ⟨0, _⟩ => rfl
    | ⟨1, _⟩ => rfl
    | ⟨2, _⟩ => rfl
    | ⟨3, _⟩ => rfl

/-- The greater-than of two ideal numbers, as the sort reads it. -/
theorem gt_bit (x y : EReal) : ((FloatOps.cmpfTotal (F := Ideal) (φ := .f32) .gt x y) == 1#1) = decide (y < x) := by
  show (BitVec.ofBool (decide (y < x)) == 1#1) = _
  by_cases hxy : y < x <;> simp [hxy]

/-- The position the sort puts first along the last axis of four is the first greatest. -/
theorem top4 (x : FVec Ideal S4x256x8x2048 .f32) (b : Fin 4) (p : Fin 256) (n : Fin 8) :
    ∃ c : Fin 2048, FirstMax (fun t => x (ix4 b p n t)) c
      ∧ (Host.sort2 S4x256x8x2048 3 (fun l r => FloatOps.cmpfTotal .gt l.1 r.1) x fun i => BitVec.ofNat 32 (i 3).val).2 (ix4 b p n 0)
        = BitVec.ofNat 32 c.val := by
  have hal : ∀ t : Fin 2048, (ix4 b p n 0 : S4x256x8x2048.Idx).along (3 : Fin 4) t = ix4 b p n t := by
    intro t
    funext a
    match a with
    | ⟨0, _⟩ => rfl
    | ⟨1, _⟩ => rfl
    | ⟨2, _⟩ => rfl
    | ⟨3, _⟩ => rfl
  refine ⟨sortedFrom (fun k k' : Fin 2048 => (FloatOps.cmpfTotal (F := Ideal) (φ := .f32) .gt
      (x ((ix4 b p n 0 : S4x256x8x2048.Idx).along (3 : Fin 4) k)) (x ((ix4 b p n 0 : S4x256x8x2048.Idx).along (3 : Fin 4) k'))) == 1#1) 0, ?_, ?_⟩
  rotate_left
  · unfold Host.sort2
    rw [dif_pos (by decide)]
    generalize hB : (fun k k' : Fin 2048 => (FloatOps.cmpfTotal (F := Ideal) (φ := .f32) .gt
      (x ((ix4 b p n 0 : S4x256x8x2048.Idx).along (3 : Fin 4) k)) (x ((ix4 b p n 0 : S4x256x8x2048.Idx).along (3 : Fin 4) k'))) == 1#1) = B
    have hg : ∀ c : Fin 2048, BitVec.ofNat 32 (((ix4 b p n 0 : S4x256x8x2048.Idx).along (3 : Fin 4) c) 3).val = BitVec.ofNat 32 c.val := fun c => by
      rw [hal]
      rfl
    have h0 : (ix4 b p n 0 : S4x256x8x2048.Idx) (3 : Fin 4) = (0 : Fin 2048) := rfl
    refine Eq.trans ?_ (hg (sortedFrom B 0))
    subst hB
    dsimp only
    exact congrArg (fun k : Fin 2048 => BitVec.ofNat 32 (((ix4 b p n 0 : S4x256x8x2048.Idx).along (3 : Fin 4) k) 3).val)
      (congrArg (sortedFrom _) h0)
  refine sortedFrom_gt_zero (fun t => x (ix4 b p n t)) _ fun t t' => ?_
  rw [gt_bit, hal, hal]

/-- The position the sort puts first along the last axis of three is the first greatest. -/
theorem top3 (x : FVec Ideal S4x256x8 .f32) (b : Fin 4) (p : Fin 256) :
    ∃ c : Fin 8, FirstMax (fun n => x (ix3 b p n)) c
      ∧ (Host.sort2 S4x256x8 2 (fun l r => FloatOps.cmpfTotal .gt l.1 r.1) x fun i => BitVec.ofNat 32 (i 2).val).2 (ix3 b p 0)
        = BitVec.ofNat 32 c.val := by
  have hal : ∀ t : Fin 8, (ix3 b p 0 : S4x256x8.Idx).along (2 : Fin 3) t = ix3 b p t := by
    intro t
    funext a
    match a with
    | ⟨0, _⟩ => rfl
    | ⟨1, _⟩ => rfl
    | ⟨2, _⟩ => rfl
  refine ⟨sortedFrom (fun k k' : Fin 8 => (FloatOps.cmpfTotal (F := Ideal) (φ := .f32) .gt
      (x ((ix3 b p 0 : S4x256x8.Idx).along (2 : Fin 3) k)) (x ((ix3 b p 0 : S4x256x8.Idx).along (2 : Fin 3) k'))) == 1#1) 0, ?_, rfl⟩
  refine sortedFrom_gt_zero (fun t => x (ix3 b p t)) _ fun t t' => ?_
  rw [gt_bit, hal, hal]

/-! ## The step -/

variable (j : ℕ) (S : State Ideal) (b : Fin 4) (p : Fin 256)

/-- The penalised similarities. -/
theorem b11_at (t : Fin 2048) (n : Fin 8) : b11 j S (ix4 b p t n)
    = (S.main_v32_0 (ix4 b p t n) + (1 - S.main_v32_5 (ix4 b p t n) * S.main_v32_8 (ix3 b p t)) * NEG : EReal) := by
  pointwise [b11, b10, b9, b8, b7, b6, b5, b4, b3, b2]
  rw [ofBits_NEG]

/-- Each subpatch's greatest penalised similarity. -/
theorem b13_at (n : Fin 8) : b13 j S (ix3 b p n) = rowMax fun t : Fin 2048 => b11 j S (ix4 b p t n) := by
  pointwise [b13, b12]
  rw [ofBits_bot]
  rfl

/-- The greatest of all. -/
theorem b19_at : b19 j S (ix2 b p) = rowMax fun n : Fin 8 => b13 j S (ix3 b p n) := by
  pointwise [b19, b18]
  rw [ofBits_bot]
  rfl

/-- Each subpatch's best event. -/
theorem b17_at (n : Fin 8) : ∃ c : Fin 2048, FirstMax (fun t => b11 j S (ix4 b p t n)) c
    ∧ b17 j S (ix3 b p n) = BitVec.ofNat 32 c.val := by
  obtain ⟨c, hc, he⟩ := top4 (b14 j S) b p n
  refine ⟨c, ?_, ?_⟩
  · have : ∀ t : Fin 2048, b14 j S (ix4 b p n t) = b11 j S (ix4 b p t n) := fun t => by pointwise [b14]
    simpa only [this] using hc
  · pointwise [b17, b16, Host.topK]
    exact he

/-- The best subpatch. -/
theorem b22_at : ∃ q : Fin 8, FirstMax (fun n => b13 j S (ix3 b p n)) q ∧ b22 j S (ix2 b p) = BitVec.ofNat 32 q.val := by
  obtain ⟨c, hc, he⟩ := top3 (b13 j S) b p
  refine ⟨c, hc, ?_⟩
  pointwise [b22, b21, Host.topK]
  exact he

/-- The place read is the best subpatch's. -/
theorem b30_at (q : Fin 8) (hq : b22 j S (ix2 b p) = BitVec.ofNat 32 q.val) : b30 j S (ix3 b p 0) = BitVec.ofNat 32 q.val := by
  pointwise [b30, b29, b28, b27, b26, b25, b24, b23]
  rw [hq]
  refine select_zero _ _ _ ?_
  rw [show (0#32) = BitVec.ofNat 32 0 from rfl, slt_one_iff _ _ (by omega) (by omega)]
  omega

/-- The same with a further unit axis. -/
theorem b31_at (q : Fin 8) (hq : b22 j S (ix2 b p) = BitVec.ofNat 32 q.val) : b31 j S (ix4 b p 0 0) = BitVec.ofNat 32 q.val := by
  rw [← b30_at j S b p q hq]
  pointwise [b31]

/-- The place read is within bounds. -/
theorem b41_at (q : Fin 8) (hq : b22 j S (ix2 b p) = BitVec.ofNat 32 q.val) : b41 j S (ix3 b p 0) = 1#1 := by
  have h := b31_at j S b p q hq
  pointwise [b41, b40, b39, b38, b37, b36, b35, b34, b33, b32]
  rw [show (Finset.univ : Finset (Fin 1)) = {0} from rfl, Finset.fold_singleton, h]
  clear hq h
  revert q
  decide

/-- The best pair's event. -/
theorem b46_at (q : Fin 8) (hq : b22 j S (ix2 b p) = BitVec.ofNat 32 q.val) : b46 j S (ix2 b p) = b17 j S (ix3 b p q) := by
  have h := b41_at j S b p q hq
  have hg := gather_at (b17 j S) (b31 j S) b p q (b31_at j S b p q hq)
  pointwise [b46, b45]
  rw [select_one _ _ _ h]
  exact hg

open Classical in
/-- The adjacency the step leaves. -/
theorem b64_at (hj : j < 8) (c t : Fin 2048) (hc : b46 j S (ix2 b p) = BitVec.ofNat 32 c.val) :
    b64 j S (ix3 b p t) = if near c t ∧ (0 < j → c.val < t.val) then (1 : EReal) else 0 := by
  have hnear := near_one_iff c t
  have hgt : IntOp.cmpi .sgt (BitVec.ofNat 32 t.val) (BitVec.ofNat 32 c.val) = 1#1 ↔ c.val < t.val :=
    sgt_one_iff _ _ (by omega) (by omega)
  have hj0 : IntOp.cmpi .sgt (BitVec.ofNat 32 j) (BitVec.ofNat 32 0) = 1#1 ↔ 0 < j := sgt_one_iff _ _ (by omega) (by omega)
  pointwise [b64,b63,b62,b61,b60,b59,b58,b57,b56,b55,b54,b53,b52,b51,b50,b49,b48,b47, K_main_v22, K_main_v21]
  rw [hc]
  by_cases h0 : 0 < j
  · rw [select_one _ _ _ (hj0.2 h0)]
    by_cases hn : near c t
    · rw [uind_one _ (hnear.2 hn), one_mul]
      by_cases hl : c.val < t.val
      · rw [uind_one _ (hgt.2 hl), if_pos ⟨hn, fun _ => hl⟩]
      · rw [uind_zero _ (fun h => hl (hgt.1 h)), if_neg fun h => hl (h.2 h0)]
    · rw [uind_zero _ (fun h => hn (hnear.1 h)), zero_mul, if_neg fun h => hn h.1]
  · rw [select_zero _ _ _ (fun h => h0 (hj0.1 h))]
    by_cases hn : near c t
    · rw [uind_one _ (hnear.2 hn), if_pos ⟨hn, fun h => absurd h h0⟩]
    · rw [uind_zero _ (fun h => hn (hnear.1 h)), if_neg fun h => hn h.1]

open Classical in
/-- The events left after the step. -/
theorem b74_at (c t : Fin 2048) (hc : b46 j S (ix2 b p) = BitVec.ofNat 32 c.val) :
    b74 j S (ix3 b p t) = (S.main_v32_6 (ix3 b p t) * (if c = t then 0 else 1) : EReal) := by
  have heq : IntOp.cmpi .eq (BitVec.ofNat 32 c.val) (BitVec.ofNat 32 t.val) = 1#1 ↔ c = t := by
    rw [eq_one_iff _ _ (by omega) (by omega), Fin.ext_iff]
  pointwise [b74,b73,b72,b71,b70,b69,b68,b67,b66,b65]
  rw [hc]
  refine congrArg (fun x : EReal => (S.main_v32_6 (ix3 b p t) * x : EReal)) ?_
  by_cases h : c = t
  · rw [uind_one _ (heq.2 h), if_pos h]
    exact EReal.sub_self (EReal.coe_ne_top 1) (EReal.coe_ne_bot 1)
  · rw [uind_zero _ (fun e => h (heq.1 e)), if_neg h, sub_zero]

open Classical in
/-- The subpatches left after the step. -/
theorem b84_at (q n : Fin 8) (hq : b22 j S (ix2 b p) = BitVec.ofNat 32 q.val) :
    b84 j S (ix3 b p n) = (S.main_v32_7 (ix3 b p n) * (if q = n then 0 else 1) : EReal) := by
  have heq : IntOp.cmpi .eq (BitVec.ofNat 32 q.val) (BitVec.ofNat 32 n.val) = 1#1 ↔ q = n := by
    rw [eq_one_iff _ _ (by omega) (by omega), Fin.ext_iff]
  pointwise [b84,b83,b82,b81,b80,b79,b78,b77,b76,b75]
  rw [hq]
  refine congrArg (fun x : EReal => (S.main_v32_7 (ix3 b p n) * x : EReal)) ?_
  by_cases h : q = n
  · rw [uind_one _ (heq.2 h), if_pos h]
    exact EReal.sub_self (EReal.coe_ne_top 1) (EReal.coe_ne_bot 1)
  · rw [uind_zero _ (fun e => h (heq.1 e)), if_neg h, sub_zero]

/-- The pairs left after the step. -/
theorem b90_at (t : Fin 2048) (n : Fin 8) :
    b90 j S (ix4 b p t n) = (S.main_v32_5 (ix4 b p t n) * b74 j S (ix3 b p t) * b84 j S (ix3 b p n) : EReal) := by
  pointwise [b90,b89,b88,b87,b86,b85]

/-- A selection by the slot's number. -/
theorem slot_at {α : Type} (hj : j < 8) (n : Fin 8) (x y : α) :
    Scalar.select (IntOp.cmpi .eq (BitVec.ofNat 32 n.val) (BitVec.ofNat 32 j)) x y = if n.val = j then x else y := by
  by_cases h : n.val = j
  · rw [select_one _ _ _ ((eq_one_iff _ _ (by omega) (by omega)).2 h), if_pos h]
  · rw [select_zero _ _ _ (fun e => h ((eq_one_iff _ _ (by omega) (by omega)).1 e)), if_neg h]

/-- The subpatch picked at each step. -/
theorem b97_at (hj : j < 8) (n : Fin 8) :
    b97 j S (ix3 b p n) = if n.val = j then b22 j S (ix2 b p) else S.main_v32_9 (ix3 b p n) := by
  pointwise [b97,b96,b95,b94,b93,b92,b91,K_main_v24,K_main_v23]
  exact slot_at j hj n _ _

/-- The event picked at each step. -/
theorem b105_at (hj : j < 8) (n : Fin 8) :
    b105 j S (ix3 b p n)
      = if n.val = j then FloatOps.sitofp (F := Ideal) .f32 (b46 j S (ix2 b p)) else S.main_v32_10 (ix3 b p n) := by
  pointwise [b105,b104,b103,b102,b101,b100,b99,b98,K_main_v24,K_main_v23]
  exact slot_at j hj n _ _

/-- The value found at each step. -/
theorem b112_at (hj : j < 8) (n : Fin 8) :
    b112 j S (ix3 b p n) = if n.val = j then b19 j S (ix2 b p) else S.main_v32_11 (ix3 b p n) := by
  pointwise [b112,b111,b110,b109,b108,b107,b106,K_main_v24,K_main_v23]
  exact slot_at j hj n _ _

end Cert.MatchRef
-- ==== Proof.KernelSearch.lean ====
module

public import proofs.«01_k».proof.Proof.KernelPick

@[expose] public section

/-!
The body's eight rounds at one prototype are the greedy search with a penalty on events.
-/

set_option maxRecDepth 16384

noncomputable section

namespace Cert.MatchRun

open Cert.KernelIdeal Cert.KernelIdeal.Gen
open Idealize.ShloMosaic Idealize.ShloMosaic.TcCoe Idealize.SL.Sem Cert.Match

variable (v22 : FVec Ideal S8x128x2048 .f32) (v29 : FVec Ideal S8x128 .f32) (v35 : IVec S8x128 32) (p : Fin 128)

/-- The subpatch of pick `k`, as a number. -/
def sAt (k : ℕ) : Fin 8 := ⟨(pickS v22 v29 v35 k (ix2 p 0)).toNat % 8, Nat.mod_lt _ (by norm_num)⟩
/-- The event of pick `k`, as a number. -/
def cAt (k : ℕ) : Fin 2048 := ⟨(pickC v22 v29 v35 k (ix2 p 0)).toNat % 2048, Nat.mod_lt _ (by norm_num)⟩

variable {v22 v29 v35 p}

/-- The subpatch of a pick is the number its word holds. -/
theorem sAt_of {k : ℕ} {q : Fin 8} (h : pickS v22 v29 v35 k (ix2 p 0) = BitVec.ofNat 32 q.val) :
    sAt v22 v29 v35 p k = q := by
  apply Fin.ext
  show (pickS v22 v29 v35 k (ix2 p 0)).toNat % 8 = _
  rw [h, BitVec.toNat_ofNat]
  omega
/-- The event of a pick is the number its word holds. -/
theorem cAt_of {k : ℕ} {q : Fin 2048} (h : pickC v22 v29 v35 k (ix2 p 0) = BitVec.ofNat 32 q.val) :
    cAt v22 v29 v35 p k = q := by
  apply Fin.ext
  show (pickC v22 v29 v35 k (ix2 p 0)).toNat % 2048 = _
  rw [h, BitVec.toNat_ofNat]
  omega

/-! ## The masks' mathematics -/

/-- Every event is allowed at first. -/
theorem allow_zero (c : ℕ → Fin 2048) (t : Fin 2048) : allow c 0 t := Or.inl rfl
/-- After one pick the events near it are allowed, itself apart. -/
theorem allow_one (c : ℕ → Fin 2048) (t : Fin 2048) : allow c 1 t ↔ c 0 ≠ t ∧ near (c 0) t := by
  unfold allow
  constructor
  · rintro (h | ⟨h1, h2, _⟩)
    · exact absurd h one_ne_zero
    · exact ⟨h1 0 (by norm_num), h2⟩
  · rintro ⟨h1, h2⟩
    refine Or.inr ⟨fun i hi => ?_, h2, fun h => absurd h (lt_irrefl 1)⟩
    rw [Nat.lt_one_iff.1 hi]; exact h1
/-- After more picks the unused events near the last and to its right are allowed. -/
theorem allow_succ (c : ℕ → Fin 2048) (k : ℕ) (t : Fin 2048) :
    allow c (k + 2) t ↔ (((∀ i, i < k + 1 → c i ≠ t) ∧ c (k + 1) ≠ t) ∧ near (c (k + 1)) t) ∧ (c (k + 1)).val < t.val := by
  unfold allow
  constructor
  · rintro (h | ⟨h1, h2, h3⟩)
    · exact absurd h (by omega)
    · exact ⟨⟨⟨fun i hi => h1 i (by omega), h1 (k + 1) (by omega)⟩, h2⟩, h3 (by omega)⟩
  · rintro ⟨⟨⟨h1, h1'⟩, h2⟩, h3⟩
    refine Or.inr ⟨fun i hi => ?_, h2, fun _ => h3⟩
    rcases Nat.lt_succ_iff_lt_or_eq.1 hi with h | h
    · exact h1 i h
    · rw [h]; exact h1'
/-- A subpatch is unused after a pick when it was before and is not the one picked. -/
theorem used_succ (s : ℕ → Fin 8) (k : ℕ) (n : Fin 8) : ¬ used s (k + 1) n ↔ ¬ used s k n ∧ n ≠ s k := by
  unfold used
  push Not
  constructor
  · exact fun h => ⟨fun i hi => h i (by omega), fun he => h k (by omega) he.symm⟩
  · rintro ⟨h1, h2⟩ i hi
    rcases Nat.lt_succ_iff_lt_or_eq.1 hi with h | h
    · exact h1 i h
    · rw [h]; exact h2.symm
/-- No subpatch is used at first. -/
theorem not_used_zero (s : ℕ → Fin 8) (n : Fin 8) : ¬ used s 0 n := fun ⟨_, h, _⟩ => absurd h (Nat.not_lt_zero _)
/-- At first a subpatch's penalised similarities are its similarities. -/
theorem eventRow_zero (D : Fin 8 → Fin 2048 → EReal) (c : ℕ → Fin 2048) (n : Fin 8) : eventRow D c 0 n = D n := by
  classical
  funext t
  unfold eventRow
  rw [if_pos (allow_zero c t), add_zero]
/-- At first a subpatch's best is its greatest similarity. -/
theorem eventTop_zero (D : Fin 8 → Fin 2048 → EReal) (s : ℕ → Fin 8) (c : ℕ → Fin 2048) (n : Fin 8) :
    eventTop D s c 0 n = rowMax (D n) := by
  classical
  unfold eventTop
  rw [if_neg (not_used_zero s n), eventRow_zero]

/-! ## The rounds -/

variable (v22 v29 v35 p)

/-- What pick `k` is. -/
structure Picked (k : ℕ) : Prop where
  s : pickS v22 v29 v35 k (ix2 p 0) = BitVec.ofNat 32 (sAt v22 v29 v35 p k).val
  c : pickC v22 v29 v35 k (ix2 p 0) = BitVec.ofNat 32 (cAt v22 v29 v35 p k).val
  top : FirstMax (eventTop (DAt v22 p) (sAt v22 v29 v35 p) (cAt v22 v29 v35 p) k) (sAt v22 v29 v35 p k)
  row : FirstMax (eventRow (DAt v22 p) (cAt v22 v29 v35 p) k (sAt v22 v29 v35 p k)) (cAt v22 v29 v35 p k)
  v : pickV v22 v29 v35 k (ix2 p 0) = rowMax (eventRow (DAt v22 p) (cAt v22 v29 v35 p) k (sAt v22 v29 v35 p k))

open Classical in
/-- What is carried after pick `k`. -/
structure Carried (k : ℕ) : Prop where
  act : ∀ t : Fin 2048, (stAt v22 v29 v35 k).act (ix2 p t) = 1#1 ↔ ∀ i, i < k + 1 → cAt v22 v29 v35 p i ≠ t
  sub : ∀ n : Fin 8, (stAt v22 v29 v35 k).sub (ix2 n p) = 1#1 ↔ ¬ used (sAt v22 v29 v35 p) (k + 1) n
  pen : ∀ t : Fin 2048, (stAt v22 v29 v35 k).pen (ix2 p t) = if allow (cAt v22 v29 v35 p) (k + 1) t then (0 : EReal) else NEG
  s : (stAt v22 v29 v35 k).s (ix2 0 p) = BitVec.ofNat 32 (sAt v22 v29 v35 p (k + 1)).val
  top : FirstMax (eventTop (DAt v22 p) (sAt v22 v29 v35 p) (cAt v22 v29 v35 p) (k + 1)) (sAt v22 v29 v35 p (k + 1))
  oh : ∀ n : Fin 8, (stAt v22 v29 v35 k).oh (ix2 n p) = 1#1 ↔ n = sAt v22 v29 v35 p (k + 1)

variable {v22 v29 v35 p}

/-- A greatest entry of a round, by whether the subpatch is still unused. -/
theorem eventTop_cases (D : Fin 8 → Fin 2048 → EReal) (s : ℕ → Fin 8) (c : ℕ → Fin 2048) (k : ℕ) (n : Fin 8) :
    (¬ used s k n → eventTop D s c k n = rowMax (eventRow D c k n))
      ∧ (used s k n → eventTop D s c k n = rowMax (D n) + NEG) := by
  classical
  unfold eventTop
  exact ⟨fun h => if_neg h, fun h => if_pos h⟩

variable (h29 : ∀ n : Fin 8, v29 (ix2 n p) = (rowMax (DAt v22 p n) + NEG : EReal))
  (h35 : ∀ n : Fin 8, v35 (ix2 n p)
    = if rowMax (DAt v22 p n) = rowMax (fun n => rowMax (DAt v22 p n)) then BitVec.ofNat 32 n.val else 8#32)

include h35 in
/-- The first pick. -/
theorem picked_zero : Picked v22 v29 v35 p 0 := by
  obtain ⟨q, hq⟩ := exists_firstMax (fun n => rowMax (DAt v22 p n))
  have h11 := pay11_at v35 p (fun n => rowMax (DAt v22 p n)) h35 q hq
  have hs : pickS v22 v29 v35 0 (ix2 p 0) = BitVec.ofNat 32 q.val := (pay19_at v35 p).trans h11
  have h13 := pay13_at v22 v35 p q (fun n => pay12_at v35 p q n h11)
  have h13' : (fun t : Fin 2048 => k0_pay13 v22 subs v35 (ix2 p t)) = DAt v22 p q := funext h13
  obtain ⟨c, hc⟩ := exists_firstMax (DAt v22 p q)
  have h15 := pay15_at v22 v35 p c (h13' ▸ hc)
  have hc' : pickC v22 v29 v35 0 (ix2 p 0) = BitVec.ofNat 32 c.val := h15
  refine ⟨by rw [sAt_of hs]; exact hs, by rw [cAt_of hc']; exact hc', ?_, ?_, ?_⟩
  · rw [sAt_of hs, show eventTop (DAt v22 p) (sAt v22 v29 v35 p) (cAt v22 v29 v35 p) 0 = fun n => rowMax (DAt v22 p n) from
      funext fun n => eventTop_zero _ _ _ n]
    exact hq
  · rw [sAt_of hs, cAt_of hc', eventRow_zero]
    exact hc
  · rw [sAt_of hs, eventRow_zero]
    exact (pay14_at v22 v35 p).trans (by rw [h13'])

include h29 h35 in
/-- What the first pick hands on. -/
theorem carried_zero : Carried v22 v29 v35 p 0 := by
  classical
  have hP := picked_zero (v29 := v29) h35
  have h11 : k0_pay11 v35 (ix2 0 p) = BitVec.ofNat 32 (sAt v22 v29 v35 p 0).val := (pay19_at v35 p).symm.trans hP.s
  have h12 := fun n => pay12_at v35 p _ n h11
  have h15 : k0_pay15 v22 subs evs v35 (ix2 p 0) = BitVec.ofNat 32 (cAt v22 v29 v35 p 0).val := hP.c
  have hsub : ∀ n : Fin 8, k0_pay17 subs k0_pay7 v35 (ix2 n p) = 1#1 ↔ ¬ used (sAt v22 v29 v35 p) 1 n := by
    intro n
    rw [pay17_at v35 p _ n h12, used_succ]
    exact (and_iff_right (not_used_zero _ n)).symm
  have hpen : ∀ t : Fin 2048, k0_pay18 v22 subs evs v35 (ix2 p t)
      = if allow (cAt v22 v29 v35 p) 1 t then (0 : EReal) else NEG := by
    intro t
    rw [pay18_at v22 v35 p _ t h15]
    simp only [allow_one]
  obtain ⟨q, hq⟩ := exists_firstMax (eventTop (DAt v22 p) (sAt v22 v29 v35 p) (cAt v22 v29 v35 p) 1)
  have h20 := pay20_at v22 v29 v35 p (eventTop (DAt v22 p) (sAt v22 v29 v35 p) (cAt v22 v29 v35 p) 1) (fun n => by
    rw [hsub n, not_not]
    refine ⟨fun h => ?_, fun h => ?_⟩
    · rw [(eventTop_cases _ _ _ _ n).1 h]
      exact congrArg rowMax (funext fun t => by rw [hpen t]; unfold eventRow; rfl)
    · rw [(eventTop_cases _ _ _ _ n).2 h, h29 n]) q hq
  have hs1 : pickS v22 v29 v35 1 (ix2 p 0) = BitVec.ofNat 32 q.val := (pay28_at p _).trans h20
  refine ⟨fun t => ?_, hsub, hpen, ?_, ?_, fun n => ?_⟩
  · have hact : (stAt v22 v29 v35 0).act = k0_pay16 v22 subs evs v35 := by
      unfold stAt st1
      with_reducible rfl
    rw [hact, pay16_at v22 v35 p _ t h15]
    constructor
    · intro h i hi
      have h0 : i = 0 := by omega
      subst h0
      exact h
    · exact fun h => h 0 (by norm_num)
  · rw [sAt_of hs1]; exact h20
  · rw [sAt_of hs1]; exact hq
  · rw [sAt_of hs1]; exact pay21_at v22 v29 v35 p q n h20

/-- A further pick, of what the one before handed on. -/
theorem picked_succ (k : ℕ) (hC : Carried v22 v29 v35 p k) : Picked v22 v29 v35 p (k + 1) := by
  classical
  have hrow : (fun t : Fin 2048 => k0_pay22 v22 (stAt v22 v29 v35 k).pen (stAt v22 v29 v35 k).oh (ix2 p t))
      = eventRow (DAt v22 p) (cAt v22 v29 v35 p) (k + 1) (sAt v22 v29 v35 p (k + 1)) := by
    funext t
    rw [pay22_at v22 _ _ p _ hC.oh t, hC.pen t]
    rfl
  obtain ⟨c, hc⟩ := exists_firstMax (eventRow (DAt v22 p) (cAt v22 v29 v35 p) (k + 1) (sAt v22 v29 v35 p (k + 1)))
  have h24 := pay24_at v22 _ _ p c (hrow ▸ hc)
  have hc' : pickC v22 v29 v35 (k + 1) (ix2 p 0) = BitVec.ofNat 32 c.val := h24
  refine ⟨(pay28_at p _).trans hC.s, by rw [cAt_of hc']; exact hc', hC.top, ?_, ?_⟩
  · rw [cAt_of hc']; exact hc
  · exact (pay23_at v22 _ _ p).trans (by rw [hrow])

include h29 in
/-- What a further pick hands on. -/
theorem carried_succ (k : ℕ) (hC : Carried v22 v29 v35 p k) : Carried v22 v29 v35 p (k + 1) := by
  classical
  have hP := picked_succ k hC
  have h24 : k0_pay24 v22 evs (stAt v22 v29 v35 k).pen (stAt v22 v29 v35 k).oh (ix2 p 0)
      = BitVec.ofNat 32 (cAt v22 v29 v35 p (k + 1)).val := hP.c
  have hsub : ∀ n : Fin 8, k0_pay26 (stAt v22 v29 v35 k).sub (stAt v22 v29 v35 k).oh (ix2 n p) = 1#1
      ↔ ¬ used (sAt v22 v29 v35 p) (k + 2) n := by
    intro n
    rw [pay26_at _ _ p _ n hC.oh, used_succ _ (k + 1), hC.sub n]
  have hpen : ∀ t : Fin 2048, k0_pay27 v22 evs (stAt v22 v29 v35 k).act (stAt v22 v29 v35 k).pen (stAt v22 v29 v35 k).oh (ix2 p t)
      = if allow (cAt v22 v29 v35 p) (k + 2) t then (0 : EReal) else NEG := by
    intro t
    rw [pay27_at v22 _ _ _ p _ t h24]
    simp only [allow_succ, hC.act t]
  obtain ⟨q, hq⟩ := exists_firstMax (eventTop (DAt v22 p) (sAt v22 v29 v35 p) (cAt v22 v29 v35 p) (k + 2))
  have h29' := pay29_at v22 (stAt v22 v29 v35 k).pen (stAt v22 v29 v35 k).oh (stAt v22 v29 v35 k).act
    (stAt v22 v29 v35 k).sub v29 p (eventTop (DAt v22 p) (sAt v22 v29 v35 p) (cAt v22 v29 v35 p) (k + 2)) (fun n => by
    rw [hsub n, not_not]
    refine ⟨fun h => ?_, fun h => ?_⟩
    · rw [(eventTop_cases _ _ _ _ n).1 h]
      exact congrArg rowMax (funext fun t => by rw [hpen t]; unfold eventRow; rfl)
    · rw [(eventTop_cases _ _ _ _ n).2 h, h29 n]) q hq
  have hs1 : pickS v22 v29 v35 (k + 2) (ix2 p 0) = BitVec.ofNat 32 q.val := (pay28_at p _).trans h29'
  refine ⟨fun t => ?_, hsub, hpen, ?_, ?_, fun n => ?_⟩
  · show k0_pay25 v22 evs (stAt v22 v29 v35 k).act (stAt v22 v29 v35 k).pen (stAt v22 v29 v35 k).oh (ix2 p t) = 1#1 ↔ _
    rw [pay25_at v22 _ _ _ p _ t h24, hC.act t]
    refine ⟨fun ⟨h1, h2⟩ i hi => ?_, fun h => ⟨fun i hi => h i (by omega), h (k + 1) (by omega)⟩⟩
    rcases Nat.lt_succ_iff_lt_or_eq.1 hi with h | h
    · exact h1 i h
    · rw [h]; exact h2
  · rw [sAt_of hs1]; exact h29'
  · rw [sAt_of hs1]; exact hq
  · rw [sAt_of hs1]; exact pay30_at v22 _ _ _ _ v29 p q n h29'

include h29 h35 in
/-- Every pick leaves the state as described. -/
theorem carried_all (k : ℕ) : Carried v22 v29 v35 p k := by
  induction k with
  | zero => exact carried_zero h29 h35
  | succ k ih => exact carried_succ h29 k ih

include h29 h35 in
/-- Every pick is the search's. -/
theorem picked_all (k : ℕ) : Picked v22 v29 v35 p k := by
  cases k with
  | zero => exact picked_zero h35
  | succ k => exact picked_succ k (carried_all h29 h35 k)

include h29 h35 in
/-- The body's rounds are the search with a penalty on events. -/
theorem eventRun : EventRun (DAt v22 p) (sAt v22 v29 v35 p) (cAt v22 v29 v35 p) :=
  fun k _ => ⟨(picked_all h29 h35 k).top, (picked_all h29 h35 k).row⟩

end Cert.MatchRun
-- ==== Proof.RefSearch.lean ====
module

public import proofs.«01_k».proof.Proof.RefPick
public import proofs.«01_k».proof.Proof.KernelSearch

/-! The reference's eight steps at one prototype are the greedy search with a penalty on pairs. -/

@[expose] public section

set_option maxRecDepth 16384

noncomputable section

namespace Cert.MatchRef

open Cert.ReferenceIdeal Cert.ReferenceIdeal.Gen Cert.ReferenceIdeal.Step
open Idealize.ShloMosaic Idealize.ShloMosaic.TcCoe Idealize.SL.Sem Cert.Match
open Cert.MatchRun (and_one_iff toInt_small word_inj eq_one_iff slt_one_iff sgt_one_iff near_one_iff select_one select_zero
  used_succ not_used_zero allow_zero)

variable (X : ℕ → State Ideal) (b : Fin 4) (p : Fin 256)

/-- The similarities of one prototype. -/
def DRef (n : Fin 8) (t : Fin 2048) : EReal := (X 0).main_v32_0 (ix4 b p t n)
/-- The subpatch of step `k`, as a number. -/
def sRef (k : ℕ) : Fin 8 := ⟨(b22 k (X k) (ix2 b p)).toNat % 8, Nat.mod_lt _ (by norm_num)⟩
/-- The event of step `k`, as a number. -/
def cRef (k : ℕ) : Fin 2048 := ⟨(b46 k (X k) (ix2 b p)).toNat % 2048, Nat.mod_lt _ (by norm_num)⟩

variable {X b p}

/-- The subpatch of a step is the number its word holds. -/
theorem sRef_of {k : ℕ} {q : Fin 8} (h : b22 k (X k) (ix2 b p) = BitVec.ofNat 32 q.val) : sRef X b p k = q := by
  apply Fin.ext
  show (b22 k (X k) (ix2 b p)).toNat % 8 = _
  rw [h, BitVec.toNat_ofNat]
  omega
/-- The event of a step is the number its word holds. -/
theorem cRef_of {k : ℕ} {q : Fin 2048} (h : b46 k (X k) (ix2 b p) = BitVec.ofNat 32 q.val) : cRef X b p k = q := by
  apply Fin.ext
  show (b46 k (X k) (ix2 b p)).toNat % 2048 = _
  rw [h, BitVec.toNat_ofNat]
  omega

variable (X b p)

/-- What step `k` finds. -/
structure Found (k : ℕ) : Prop where
  s : b22 k (X k) (ix2 b p) = BitVec.ofNat 32 (sRef X b p k).val
  c : b46 k (X k) (ix2 b p) = BitVec.ofNat 32 (cRef X b p k).val
  top : FirstMax (fun n => rowMax (pairRow (DRef X b p) (sRef X b p) (cRef X b p) k n)) (sRef X b p k)
  row : FirstMax (pairRow (DRef X b p) (sRef X b p) (cRef X b p) k (sRef X b p k)) (cRef X b p k)
  v : b19 k (X k) (ix2 b p) = rowMax fun n => rowMax (pairRow (DRef X b p) (sRef X b p) (cRef X b p) k n)

open Classical in
/-- What the state holds before step `k`. -/
structure Held (k : ℕ) : Prop where
  d : (X k).main_v32_0 = (X 0).main_v32_0
  pairs : ∀ (t : Fin 2048) (n : Fin 8), (X k).main_v32_5 (ix4 b p t n)
    = if (∀ i, i < k → cRef X b p i ≠ t) ∧ ¬ used (sRef X b p) k n then (1 : EReal) else 0
  events : ∀ t : Fin 2048, (X k).main_v32_6 (ix3 b p t) = if ∀ i, i < k → cRef X b p i ≠ t then (1 : EReal) else 0
  subs : ∀ n : Fin 8, (X k).main_v32_7 (ix3 b p n) = if ¬ used (sRef X b p) k n then (1 : EReal) else 0
  adj : ∀ t : Fin 2048, (X k).main_v32_8 (ix3 b p t)
    = if k = 0 ∨ (near (cRef X b p (k - 1)) t ∧ (1 < k → (cRef X b p (k - 1)).val < t.val)) then (1 : EReal) else 0
  slotS : ∀ n : Fin 8, n.val < k → (X k).main_v32_9 (ix3 b p n) = BitVec.ofNat 32 (sRef X b p n.val).val
  slotC : ∀ n : Fin 8, n.val < k → (X k).main_v32_10 (ix3 b p n)
    = FloatOps.sitofp (F := Ideal) .f32 (BitVec.ofNat 32 (cRef X b p n.val).val)
  slotV : ∀ n : Fin 8, n.val < k → (X k).main_v32_11 (ix3 b p n)
    = rowMax fun q => rowMax (pairRow (DRef X b p) (sRef X b p) (cRef X b p) n.val q)

variable {X b p}

/-- Of what the state holds, the step's finds. -/
theorem found_of (k : ℕ) (h : Held X b p k) : Found X b p k := by
  classical
  have h11 : ∀ (n : Fin 8) (t : Fin 2048), b11 k (X k) (ix4 b p t n) = pairRow (DRef X b p) (sRef X b p) (cRef X b p) k n t := by
    intro n t
    rw [b11_at, h.d, h.pairs, h.adj]
    unfold pairRow DRef allow
    by_cases hu : used (sRef X b p) k n
    · rw [if_neg (fun hx => hx.2 hu), if_pos (Or.inl hu), zero_mul, sub_zero, one_mul]
    · by_cases he : ∀ i, i < k → cRef X b p i ≠ t
      · rw [if_pos ⟨he, hu⟩, one_mul]
        by_cases ha : k = 0 ∨ (near (cRef X b p (k - 1)) t ∧ (1 < k → (cRef X b p (k - 1)).val < t.val))
        · rw [if_pos ha, if_neg, show ((1 : EReal) - 1) = 0 from EReal.sub_self (EReal.coe_ne_top 1) (EReal.coe_ne_bot 1), zero_mul]
          rintro (h1 | h1)
          · exact hu h1
          · exact h1 (ha.imp_right fun h2 => ⟨he, h2⟩)
        · rw [if_neg ha, if_pos, sub_zero, one_mul]
          exact Or.inr fun h1 => ha (h1.imp_right fun h2 => h2.2)
      · rw [if_neg (fun hx => he hx.1), zero_mul, sub_zero, one_mul, if_pos]
        refine Or.inr fun h1 => ?_
        rcases h1 with h1 | h1
        · exact he fun i hi => absurd hi (by omega)
        · exact he h1.1
  have h13 : ∀ n : Fin 8, b13 k (X k) (ix3 b p n) = rowMax (pairRow (DRef X b p) (sRef X b p) (cRef X b p) k n) := by
    intro n
    rw [b13_at]
    exact congrArg rowMax (funext fun t => h11 n t)
  obtain ⟨q, hq, hqw⟩ := b22_at k (X k) b p
  obtain ⟨c, hc, hcw⟩ := b17_at k (X k) b p q
  have hc' : b46 k (X k) (ix2 b p) = BitVec.ofNat 32 c.val := (b46_at k (X k) b p q hqw).trans hcw
  simp only [h13] at hq
  simp only [h11] at hc
  refine ⟨by rw [sRef_of hqw]; exact hqw, by rw [cRef_of hc']; exact hc', ?_, ?_, ?_⟩
  · rw [sRef_of hqw]; exact hq
  · rw [sRef_of hqw, cRef_of hc']; exact hc
  · rw [b19_at]
    exact congrArg rowMax (funext fun n => h13 n)

/-- An event is unused after a step when it was before and is not the one picked. -/
theorem free_succ (k : ℕ) (t : Fin 2048) : (∀ i, i < k + 1 → cRef X b p i ≠ t) ↔ (∀ i, i < k → cRef X b p i ≠ t) ∧ cRef X b p k ≠ t := by
  constructor
  · exact fun h => ⟨fun i hi => h i (by omega), h k (by omega)⟩
  · rintro ⟨h1, h2⟩ i hi
    rcases Nat.lt_succ_iff_lt_or_eq.1 hi with h | h
    · exact h1 i h
    · rw [h]; exact h2

/-- What the state holds after a step. -/
theorem held_succ (k : ℕ) (hk : k < 8) (hs : X (k + 1) = step k (X k)) (h : Held X b p k) : Held X b p (k + 1) := by
  classical
  have hF := found_of k h
  have h74 : ∀ t : Fin 2048, b74 k (X k) (ix3 b p t) = if ∀ i, i < k + 1 → cRef X b p i ≠ t then (1 : EReal) else 0 := by
    intro t
    rw [b74_at k (X k) b p _ t hF.c, h.events]
    simp only [free_succ]
    by_cases h1 : ∀ i, i < k → cRef X b p i ≠ t
    · by_cases h2 : cRef X b p k = t
      · rw [if_pos h1, if_pos h2, if_neg fun hx => hx.2 h2, mul_zero]
      · rw [if_pos h1, if_neg h2, if_pos ⟨h1, h2⟩, mul_one]
    · rw [if_neg h1, zero_mul, if_neg fun hx => h1 hx.1]
  have h84 : ∀ n : Fin 8, b84 k (X k) (ix3 b p n) = if ¬ used (sRef X b p) (k + 1) n then (1 : EReal) else 0 := by
    intro n
    rw [b84_at k (X k) b p _ n hF.s, h.subs]
    by_cases h1 : used (sRef X b p) k n
    · rw [if_neg (not_not.2 h1), zero_mul, if_neg fun hx => ((used_succ _ k n).1 hx).1 h1]
    · by_cases h2 : sRef X b p k = n
      · rw [if_pos h1, if_pos h2, if_neg fun hx => ((used_succ _ k n).1 hx).2 h2.symm, mul_zero]
      · rw [if_pos h1, if_neg h2, if_pos ((used_succ _ k n).2 ⟨h1, Ne.symm h2⟩), mul_one]
  refine ⟨?_, fun t n => ?_, fun t => ?_, fun n => ?_, fun t => ?_, fun n hn => ?_, fun n hn => ?_, fun n hn => ?_⟩
  · rw [hs, ← h.d]
    unfold step
    rfl
  · rw [hs, step_main_v32_5, b90_at, h.pairs, h74, h84]
    by_cases h1 : ∀ i, i < k + 1 → cRef X b p i ≠ t
    · by_cases h2 : used (sRef X b p) (k + 1) n
      · rw [if_neg (not_not.2 h2), mul_zero, if_neg fun hx => hx.2 h2]
      · rw [if_pos h1, if_pos h2, if_pos (⟨h1, h2⟩ : _ ∧ _), if_pos ⟨((free_succ k t).1 h1).1, ((used_succ _ k n).1 h2).1⟩, one_mul, one_mul]
    · rw [if_neg h1, mul_zero, zero_mul, if_neg fun hx => h1 hx.1]
  · rw [hs, step_main_v32_6]; exact h74 t
  · rw [hs, step_main_v32_7]; exact h84 n
  · rw [hs, step_main_v32_8, b64_at k (X k) b p hk _ t hF.c]
    refine if_congr ?_ rfl rfl
    simp only [Nat.add_sub_cancel, Nat.add_one_ne_zero, false_or, Nat.lt_add_left_iff_pos]
  · rw [hs, step_main_v32_9, b97_at k (X k) b p hk]
    by_cases hx : n.val = k
    · rw [if_pos hx, hx]; exact hF.s
    · rw [if_neg hx]; exact h.slotS n (by omega)
  · rw [hs, step_main_v32_10, b105_at k (X k) b p hk]
    by_cases hx : n.val = k
    · rw [if_pos hx, hx, hF.c]
    · rw [if_neg hx]; exact h.slotC n (by omega)
  · rw [hs, step_main_v32_11, b112_at k (X k) b p hk]
    by_cases hx : n.val = k
    · rw [if_pos hx, hx]; exact hF.v
    · rw [if_neg hx]; exact h.slotV n (by omega)

/-- What the state holds before the first step. -/
theorem held_zero (a0 : FVec Ideal S4x2048x768 .f32) (a1 : FVec Ideal S4x2048 .f32) (a2 : FVec Ideal S256x768x8 .f32)
    (h0 : X 0 = init (F := Ideal) a0 a1 a2) : Held X b p 0 := by
  classical
  have h5 : ∀ (t : Fin 2048) (n : Fin 8), K_main_v25 (F := Ideal) (ix4 b p t n) = (1 : EReal) := fun t n => by
    pointwise [K_main_v25, K_main_cst_3]
  have h6 : ∀ t : Fin 2048, K_main_v26 (F := Ideal) (ix3 b p t) = (1 : EReal) := fun t => by
    pointwise [K_main_v26, K_main_cst_4]
  have h7 : ∀ n : Fin 8, K_main_v27 (F := Ideal) (ix3 b p n) = (1 : EReal) := fun n => by
    pointwise [K_main_v27, K_main_cst_5]
  have h8 : ∀ t : Fin 2048, K_main_v28 (F := Ideal) (ix3 b p t) = (1 : EReal) := fun t => by
    pointwise [K_main_v28, K_main_cst_6]
  refine ⟨rfl, fun t n => ?_, fun t => ?_, fun n => ?_, fun t => ?_, fun n hn => absurd hn (Nat.not_lt_zero _),
    fun n hn => absurd hn (Nat.not_lt_zero _), fun n hn => absurd hn (Nat.not_lt_zero _)⟩
  · rw [if_pos ⟨fun i hi => absurd hi (Nat.not_lt_zero _), not_used_zero _ n⟩, h0, ← h5 t n]; unfold init; rfl
  · rw [if_pos fun i hi => absurd hi (Nat.not_lt_zero _), h0, ← h6 t]; unfold init; rfl
  · rw [if_pos (not_used_zero _ n), h0, ← h7 n]; unfold init; rfl
  · rw [if_pos (Or.inl rfl), h0, ← h8 t]; unfold init; rfl

variable (a0 : FVec Ideal S4x2048x768 .f32) (a1 : FVec Ideal S4x2048 .f32) (a2 : FVec Ideal S256x768x8 .f32)
  (h0 : X 0 = init (F := Ideal) a0 a1 a2) (hs : ∀ n, X (n + 1) = step n (X n))

include h0 hs in
/-- What the state holds before every step and after the last. -/
theorem held_all (k : ℕ) (hk : k ≤ 8) : Held X b p k := by
  induction k with
  | zero => exact held_zero a0 a1 a2 h0
  | succ k ih => exact held_succ k (by omega) (hs k) (ih (by omega))

include h0 hs in
/-- The reference's steps are the search with a penalty on pairs. -/
theorem pairRun : PairRun (DRef X b p) (sRef X b p) (cRef X b p) := fun k hk =>
  have h := found_of k (held_all a0 a1 a2 h0 hs k hk.le)
  ⟨h.top, h.row⟩

end Cert.MatchRef
-- ==== Proof.FinOut.lean ====
module

public import proofs.«01_k».proof.Proof.KernelSearch

/-! The body's last part puts the picks in the order of their subpatches: a pick's place is the number of picks before it,
and the value at a place is the sum of the values times the indicator of their place. That is the stable sort. -/

@[expose] public section

set_option maxRecDepth 16384

noncomputable section

namespace Cert.MatchRun

open Cert.KernelIdeal Cert.KernelIdeal.Gen
open Idealize.ShloMosaic Idealize.ShloMosaic.TcCoe Idealize.SL.Sem Cert.Match

/-- Pick `j` is before pick `i`, as a word: its subpatch is less, or the same with `j` the earlier pick. -/
def rankBit (S : Fin 8 → BitVec 32) (j i : Fin 8) : BitVec 32 :=
  BitVec.setWidth 32 (IntOp.ori (IntOp.cmpi .slt (S j) (S i)) (IntOp.andi (IntOp.cmpi .eq (S j) (S i)) (if j < i then 1#1 else 0#1)))

/-- The other picks. -/
def others (i : Fin 8) : List (Fin 8) := (List.finRange 8).filter fun j => decide (j ≠ i)

/-- The number of picks before pick `i`, as a word. -/
def rankWord (S : Fin 8 → BitVec 32) (i : Fin 8) : BitVec 32 :=
  (others i).foldl (fun w j => IntOp.addi w (rankBit S j i)) 0#32

/-- The values put at their places. -/
def placed (S : Fin 8 → BitVec 32) (C : Fin 8 → EReal) (q : Fin 8) : EReal :=
  ∑ i : Fin 8, C i * FloatOps.sitofp (F := Ideal) FTy.f32
    (BitVec.setWidth 32 (IntOp.cmpi .eq (BitVec.ofNat 32 q.val) (rankWord S i)))

section Mathematics

variable (S : Fin 8 → BitVec 32) (s : Fin 8 → Fin 8) (hS : ∀ i, S i = BitVec.ofNat 32 (s i).val)

/-- A pick's subpatch is less than another's. -/
def less (a b : Fin 8) : Bool := decide (s a < s b)

/-- Less is asymmetric. -/
theorem less_asymm (a b : Fin 8) (h : less s a b = true) : less s b a = false := by
  unfold less at h ⊢
  simp only [decide_eq_true_eq, decide_eq_false_iff_not, not_lt] at h ⊢
  exact h.le
/-- Not less is transitive. -/
theorem less_nt (a b c : Fin 8) (h1 : less s a b = false) (h2 : less s b c = false) : less s a c = false := by
  unfold less at h1 h2 ⊢
  simp only [decide_eq_false_iff_not, not_lt] at h1 h2 ⊢
  exact h2.trans h1

include hS in
/-- The bit the body counts says that one pick comes before another, ties by position. -/
theorem rankBit_eq (j i : Fin 8) : rankBit S j i = BitVec.ofNat 32 (if lexBefore (less s) j i = true then 1 else 0) := by
  have hlt := slt_one_iff (s j).val (s i).val (by omega) (by omega)
  have heq := eq_one_iff (s j).val (s i).val (by omega) (by omega)
  unfold rankBit lexBefore less
  rw [hS, hS]
  have hor : ∀ x y : BitVec 1, BitVec.setWidth 32 (IntOp.ori x y) = BitVec.ofNat 32 (if x = 1#1 ∨ y = 1#1 then 1 else 0) := by decide
  have hb : (if j < i then 1#1 else 0#1 : BitVec 1) = 1#1 ↔ j < i := by
    by_cases h : j < i <;> simp [h]
  refine (hor _ _).trans (congrArg (BitVec.ofNat 32) (if_congr ?_ rfl rfl))
  rw [and_one_iff, hlt, heq, hb]
  simp only [Bool.or_eq_true, Bool.and_eq_true, decide_eq_true_eq, Bool.not_eq_true', decide_eq_false_iff_not, not_lt, Fin.lt_def, Fin.le_def]
  omega

/-- A sum of words is the word of the sum. -/
theorem foldl_ofNat (f : Fin 8 → ℕ) (l : List (Fin 8)) (a : ℕ) :
    l.foldl (fun w j => IntOp.addi w (BitVec.ofNat 32 (f j))) (BitVec.ofNat 32 a) = BitVec.ofNat 32 (a + (l.map f).sum) := by
  induction l generalizing a with
  | nil => simp
  | cons x l ih =>
    rw [List.foldl_cons, show IntOp.addi (BitVec.ofNat 32 a) (BitVec.ofNat 32 (f x)) = BitVec.ofNat 32 (a + f x) from
      (BitVec.ofNat_add a (f x)).symm, ih, List.map_cons, List.sum_cons, add_assoc]

/-- A term that is zero may be left out of a sum over a list. -/
theorem sum_skip (f : Fin 8 → ℕ) (i : Fin 8) (hi : f i = 0) (l : List (Fin 8)) :
    ((l.filter fun j => decide (j ≠ i)).map f).sum = (l.map f).sum := by
  induction l with
  | nil => rfl
  | cons x l ih =>
    by_cases h : x = i
    · subst h
      rw [List.filter_cons_of_neg (by simp), ih, List.map_cons, List.sum_cons, hi, zero_add]
    · rw [List.filter_cons_of_pos (by simpa using h), List.map_cons, List.sum_cons, ih, List.map_cons, List.sum_cons]

include hS in
/-- A pick's rank is the number of picks before it. -/
theorem rankWord_eq (i : Fin 8) :
    rankWord S i = BitVec.ofNat 32 (Finset.univ.filter fun j => lexBefore (less s) j i = true).card := by
  unfold rankWord others
  simp only [rankBit_eq S s hS]
  rw [foldl_ofNat, zero_add, sum_skip _ i, ← Fin.sum_univ_def, Finset.card_filter]
  rw [if_neg]
  unfold lexBefore less
  simp

include hS in
/-- The value at a place is the value of the pick sorted there. -/
theorem placed_eq (C : Fin 8 → EReal) (q : Fin 8) : placed S C q = C (sortedFrom (less s) q) := by
  have hoh : ∀ i, IntOp.cmpi .eq (BitVec.ofNat 32 q.val) (rankWord S i) = 1#1 ↔ i = sortedFrom (less s) q := by
    intro i
    obtain ⟨r, rfl⟩ := sortedFrom_surjective (less s) i
    rw [rankWord_eq S s hS, card_before _ (less_asymm s) (less_nt s), eq_one_iff _ _ (by omega) (by omega), ← Fin.ext_iff]
    exact ⟨fun h => by rw [h], fun h => (sortedFrom_injective _ h).symm⟩
  unfold placed
  rw [Finset.sum_eq_single (sortedFrom (less s) q)]
  · rw [ind_one _ ((hoh _).2 rfl)]
    exact mul_one _
  · intro i _ hi
    rw [ind_zero _ fun h => hi ((hoh i).1 h)]
    exact mul_zero _
  · exact fun h => absurd (Finset.mem_univ _) h

end Mathematics

variable (c0 c1 c2 c3 c4 c5 c6 c7 s0 s1 s2 s3 s4 s5 s6 s7 : IVec S128x1 32) (v0 v1 v2 v3 v4 v5 v6 v7 : FVec Ideal S128x1 .f32)
  (ps : Vec Ideal S1x8 .f32) (p : Fin 128)

/-- The events block at one place. -/
theorem finIdx_at (q : Fin 8) :
    (finIdx c0 c1 c2 c3 c4 c5 c6 c7 s0 s1 s2 s3 s4 s5 s6 s7 : FVec Ideal S128x8 .f32) (ix2 p q)
      = placed (fun i => (![s0, s1, s2, s3, s4, s5, s6, s7] i : IVec S128x1 32) (ix2 p 0))
        (fun i => FloatOps.sitofp (F := Ideal) FTy.f32 ((![c0, c1, c2, c3, c4, c5, c6, c7] i : IVec S128x1 32) (ix2 p 0))) q := by
  unfold finIdx placed
  rw [Fin.sum_univ_eight]
  pointwise [slots, k0_pay79, k0_pay80, k0_pay81, k0_pay82, k0_pay83, k0_pay85, k0_pay86, k0_pay87, k0_pay88, k0_pay90,
    k0_pay91, k0_pay92, k0_pay94, k0_pay95, k0_pay96, k0_pay97, k0_pay99, k0_pay100, k0_pay101, k0_pay103, k0_pay104,
    k0_pay105, k0_pay106, k0_pay108, k0_pay109, k0_pay110, k0_pay112, k0_pay113, k0_pay114, k0_pay115, k0_pay116]
  rfl

/-- The weight of a place. -/
def weight (f : Fin 8 → EReal) (q : Fin 8) : EReal :=
  Ideal.div (Ideal.logistic (f q * Ideal.ofBits FTy.f32 0x40000000#32) * Ideal.ofBits FTy.f32 0x41000000#32)
    (∑ x : Fin 8, Ideal.logistic (f x * Ideal.ofBits FTy.f32 0x40000000#32) + Ideal.ofBits FTy.f32 0x2EDBE6FF#32)

/-- The weighted sum. -/
theorem finAct_at :
    (finAct v0 v1 v2 v3 v4 v5 v6 v7 s0 s1 s2 s3 s4 s5 s6 s7 ps : FVec Ideal S128x1 .f32) (ix2 p 0)
      = ∑ q : Fin 8, placed (fun i => (![s0, s1, s2, s3, s4, s5, s6, s7] i : IVec S128x1 32) (ix2 p 0))
        (fun i => (![v0, v1, v2, v3, v4, v5, v6, v7] i : FVec Ideal S128x1 .f32) (ix2 p 0)) q
        * weight (fun q => ps (ix2 0 q)) q := by
  unfold finAct weight
  pointwise [slots, k0_pay78, k0_pay80, k0_pay81, k0_pay82, k0_pay83, k0_pay84, k0_pay86, k0_pay87, k0_pay88, k0_pay89,
    k0_pay91, k0_pay92, k0_pay93, k0_pay95, k0_pay96, k0_pay97, k0_pay98, k0_pay100, k0_pay101, k0_pay102, k0_pay104,
    k0_pay105, k0_pay106, k0_pay107, k0_pay109, k0_pay110, k0_pay111, k0_pay113, k0_pay114, k0_pay115, k0_pay117]
  refine Finset.sum_congr rfl fun q _ => ?_
  refine congrArg (fun x : EReal => x * _) ?_
  unfold placed
  rw [Fin.sum_univ_eight]
  rfl

end Cert.MatchRun
-- ==== Proof.RefOut.lean ====
module

public import proofs.«01_k».proof.Proof.RefSearch
public import proofs.«01_k».proof.Proof.FinOut

/-! The reference's results at one prototype: the picks sorted by their subpatches, and the weighted sum. With the body's,
they are equal. -/

@[expose] public section

set_option maxRecDepth 16384

noncomputable section

namespace Cert.MatchRef

open Cert.ReferenceIdeal Cert.ReferenceIdeal.Gen Cert.ReferenceIdeal.Step
open Idealize.ShloMosaic Idealize.ShloMosaic.TcCoe Idealize.SL.Sem Cert.Match
open Cert.MatchRun (and_one_iff toInt_small word_inj eq_one_iff slt_one_iff sgt_one_iff near_one_iff select_one select_zero
  less weight placed)

variable (S : State Ideal) (b : Fin 4) (P : Fin 256) (s : Fin 8 → Fin 8)
  (hS : ∀ n : Fin 8, S.main_v32_9 (ix3 b P n) = BitVec.ofNat 32 (s n).val)

/-- A place moved along the last axis. -/
theorem along_at (i : Fin 8) (q : Fin 8) : (ix3 b P q : S4x256x8.Idx).along (2 : Fin 3) i = ix3 b P i := by
  funext a
  match a with
  | ⟨0, _⟩ => rfl
  | ⟨1, _⟩ => rfl
  | ⟨2, _⟩ => rfl

include hS in
/-- The three-array sort by the subpatches, at one place. -/
theorem sorted_at (q : Fin 8) :
    (Host.sort3 S4x256x8 2 (comparator_i32_f32_f32_d2 (F := Ideal)) S.main_v32_9 S.main_v32_11 S.main_v32_10).2.1 (ix3 b P q)
      = S.main_v32_11 (ix3 b P (sortedFrom (less s) q))
    ∧ (Host.sort3 S4x256x8 2 (comparator_i32_f32_f32_d2 (F := Ideal)) S.main_v32_9 S.main_v32_11 S.main_v32_10).2.2 (ix3 b P q)
      = S.main_v32_10 (ix3 b P (sortedFrom (less s) q)) := by
  have hB : (fun k k' : Fin 8 => comparator_i32_f32_f32_d2 (F := Ideal)
      (S.main_v32_9 ((ix3 b P q : S4x256x8.Idx).along (2 : Fin 3) k), S.main_v32_11 ((ix3 b P q : S4x256x8.Idx).along (2 : Fin 3) k), S.main_v32_10 ((ix3 b P q : S4x256x8.Idx).along (2 : Fin 3) k))
      (S.main_v32_9 ((ix3 b P q : S4x256x8.Idx).along (2 : Fin 3) k'), S.main_v32_11 ((ix3 b P q : S4x256x8.Idx).along (2 : Fin 3) k'), S.main_v32_10 ((ix3 b P q : S4x256x8.Idx).along (2 : Fin 3) k')) == 1#1)
      = less s := by
    funext k k'
    show (IntOp.cmpi .slt (S.main_v32_9 _) (S.main_v32_9 _) == 1#1) = decide (s k < s k')
    rw [along_at, along_at, hS, hS, Bool.eq_iff_iff, beq_iff_eq, decide_eq_true_eq, slt_one_iff _ _ (by omega) (by omega), Fin.lt_def]
  have h1 := congrArg (fun B => S.main_v32_11 ((ix3 b P q : S4x256x8.Idx).along (2 : Fin 3) (sortedFrom B q))) hB
  have h2 := congrArg (fun B => S.main_v32_10 ((ix3 b P q : S4x256x8.Idx).along (2 : Fin 3) (sortedFrom B q))) hB
  refine ⟨Eq.trans ?_ (h1.trans (congrArg S.main_v32_11 (along_at b P _ q))), Eq.trans ?_ (h2.trans (congrArg S.main_v32_10 (along_at b P _ q)))⟩
  · unfold Host.sort3
    rw [dif_pos (by decide)]
    rfl
  · unfold Host.sort3
    rw [dif_pos (by decide)]
    rfl

include hS in
/-- The events at one place. -/
theorem events_at (q : Fin 8) : R_main_v33_2 S (ix3 b P q) = S.main_v32_10 (ix3 b P (sortedFrom (less s) q)) :=
  (sorted_at S b P s hS q).2

include hS in
/-- The weighted sum. -/
theorem sum_at (a3 : FVec Ideal S1x1x8 .f32) :
    R_main_v52 S a3 (ix2 b P)
      = ∑ q : Fin 8, S.main_v32_11 (ix3 b P (sortedFrom (less s) q)) * weight (fun q => a3 (ix3 0 0 q)) q := by
  have h := fun q => (sorted_at S b P s hS q).1
  unfold weight Ideal.logistic
  pointwise [R_main_v52]
  simp only [h]

/-- The other result is eight less the sum. -/
theorem rest_at (a3 : FVec Ideal S1x1x8 .f32) :
    R_main_v54 S a3 (ix2 b P) = (Ideal.ofBits .f32 0x41000000#32 - R_main_v52 S a3 (ix2 b P) : EReal) := by
  have e : R_main_v54 S a3 = subf (broadcastInDim S4x256 ![] bcast_S_S4x256 (constant S_ .f32 0x41000000#32)) (R_main_v52 S a3) := by
    unfold R_main_v54 R_main_v52
    rfl
  rw [e]
  pointwise []

end Cert.MatchRef
-- ==== Proof.Meet.lean ====
module

public import proofs.«01_k».proof.Proof.RefOut

/-! One prototype's results of the body and of the reference are equal when their similarities are. -/

@[expose] public section

set_option maxRecDepth 16384

noncomputable section

namespace Cert.Match

open Idealize.ShloMosaic Idealize.ShloMosaic.TcCoe Idealize.SL.Sem
open Cert.MatchRun (DAt sAt cAt picked_all eventRun outIdx outAct finIdx_at finAct_at placed placed_eq less weight pickS pickC pickV Picked)
open Cert.MatchRef (DRef sRef cRef held_all pairRun events_at sum_at Held)
open Cert.ReferenceIdeal.Step (State step init R_main_v33_2 R_main_v52)

/-- Eight terms of a sequence as a vector. -/
theorem vec8 {α : Type} (f : ℕ → α) (i : Fin 8) : ![f 0, f 1, f 2, f 3, f 4, f 5, f 6, f 7] i = f i.val := by
  fin_cases i <;> rfl

variable {v22 : FVec Ideal Cert.KernelIdeal.S8x128x2048 .f32} {v29 : FVec Ideal Cert.KernelIdeal.S8x128 .f32}
  {v35 : IVec Cert.KernelIdeal.S8x128 32} {p : Fin 128}
  {X : ℕ → State Ideal} {b : Fin 4} {P : Fin 256}
  (h29 : ∀ n : Fin 8, v29 (ix2 n p) = (rowMax (DAt v22 p n) + NEG : EReal))
  (h35 : ∀ n : Fin 8, v35 (ix2 n p)
    = if rowMax (DAt v22 p n) = rowMax (fun n => rowMax (DAt v22 p n)) then BitVec.ofNat 32 n.val else 8#32)
  (a0 : FVec Ideal Cert.ReferenceIdeal.S4x2048x768 .f32) (a1 : FVec Ideal Cert.ReferenceIdeal.S4x2048 .f32)
  (a2 : FVec Ideal Cert.ReferenceIdeal.S256x768x8 .f32)
  (h0 : X 0 = init (F := Ideal) a0 a1 a2) (hs : ∀ n, X (n + 1) = step n (X n))
  (hD : DAt v22 p = DRef X b P) (hG : Good (DRef X b P))

include h29 h35 h0 hs hD hG

/-- The two searches' picks are the same. -/
theorem picks_agree (k : ℕ) (hk : k < 8) : sAt v22 v29 v35 p k = sRef X b P k ∧ cAt v22 v29 v35 p k = cRef X b P k
    ∧ rowMax (eventRow (DAt v22 p) (cAt v22 v29 v35 p) k (sAt v22 v29 v35 p k))
      = rowMax fun n => rowMax (pairRow (DRef X b P) (sRef X b P) (cRef X b P) k n) := by
  have hE := eventRun h29 h35
  rw [hD] at hE ⊢
  exact runs_agree hG hE (pairRun a0 a1 a2 h0 hs) k hk

/-- The kernel's eight subpatches are the reference's. -/
theorem words_s (i : Fin 8) : (![pickS v22 v29 v35 0, pickS v22 v29 v35 1, pickS v22 v29 v35 2, pickS v22 v29 v35 3,
    pickS v22 v29 v35 4, pickS v22 v29 v35 5, pickS v22 v29 v35 6, pickS v22 v29 v35 7] i : IVec Cert.KernelIdeal.S128x1 32) (ix2 p 0)
    = BitVec.ofNat 32 (sRef X b P i.val).val := by
  have h : ∀ k, k < 8 → pickS v22 v29 v35 k (ix2 p 0) = BitVec.ofNat 32 (sRef X b P k).val := fun k hk => by
    rw [(picked_all h29 h35 k).s, (picks_agree h29 h35 a0 a1 a2 h0 hs hD hG k hk).1]
  rw [vec8 (pickS v22 v29 v35) i]
  exact h i.val i.isLt

/-- The kernel's eight events are the reference's. -/
theorem words_c (i : Fin 8) : (![pickC v22 v29 v35 0, pickC v22 v29 v35 1, pickC v22 v29 v35 2, pickC v22 v29 v35 3,
    pickC v22 v29 v35 4, pickC v22 v29 v35 5, pickC v22 v29 v35 6, pickC v22 v29 v35 7] i : IVec Cert.KernelIdeal.S128x1 32) (ix2 p 0)
    = BitVec.ofNat 32 (cRef X b P i.val).val := by
  have h : ∀ k, k < 8 → pickC v22 v29 v35 k (ix2 p 0) = BitVec.ofNat 32 (cRef X b P k).val := fun k hk => by
    rw [(picked_all h29 h35 k).c, (picks_agree h29 h35 a0 a1 a2 h0 hs hD hG k hk).2.1]
  rw [vec8 (pickC v22 v29 v35) i]
  exact h i.val i.isLt

/-- The kernel's eight values are the reference's. -/
theorem values_v (i : Fin 8) : (![pickV v22 v29 v35 0, pickV v22 v29 v35 1, pickV v22 v29 v35 2, pickV v22 v29 v35 3,
    pickV v22 v29 v35 4, pickV v22 v29 v35 5, pickV v22 v29 v35 6, pickV v22 v29 v35 7] i : FVec Ideal Cert.KernelIdeal.S128x1 .f32) (ix2 p 0)
    = rowMax fun n => rowMax (pairRow (DRef X b P) (sRef X b P) (cRef X b P) i.val n) := by
  have h : ∀ k, k < 8 → pickV v22 v29 v35 k (ix2 p 0)
      = rowMax fun n => rowMax (pairRow (DRef X b P) (sRef X b P) (cRef X b P) k n) := fun k hk => by
    rw [(picked_all h29 h35 k).v, (picks_agree h29 h35 a0 a1 a2 h0 hs hD hG k hk).2.2]
  rw [vec8 (pickV v22 v29 v35) i]
  exact h i.val i.isLt

/-- The events. -/
theorem idx_agree (q : Fin 8) : outIdx v22 v29 v35 (ix2 p q) = R_main_v33_2 (X 8) (ix3 b P q) := by
  have hH : Held X b P 8 := held_all a0 a1 a2 h0 hs 8 le_rfl
  rw [events_at (X 8) b P (fun n => sRef X b P n.val) (fun n => hH.slotS n n.isLt), hH.slotC _ (Fin.isLt _)]
  unfold outIdx
  rw [finIdx_at, placed_eq _ (fun n => sRef X b P n.val) (words_s h29 h35 a0 a1 a2 h0 hs hD hG),
    words_c h29 h35 a0 a1 a2 h0 hs hD hG]

/-- The weighted sum. -/
theorem act_agree (ps : Vec Ideal Cert.KernelIdeal.S1x8 .f32) (a3 : FVec Ideal Cert.ReferenceIdeal.S1x1x8 .f32)
    (hps : ∀ q : Fin 8, ps (ix2 0 q) = a3 (ix3 0 0 q)) :
    outAct v22 v29 v35 ps (ix2 p 0) = R_main_v52 (X 8) a3 (ix2 b P) := by
  have hH : Held X b P 8 := held_all a0 a1 a2 h0 hs 8 le_rfl
  rw [sum_at (X 8) b P (fun n => sRef X b P n.val) (fun n => hH.slotS n n.isLt)]
  unfold outAct
  rw [finAct_at]
  refine Finset.sum_congr rfl fun q _ => ?_
  rw [hH.slotV _ (Fin.isLt _), placed_eq _ (fun n => sRef X b P n.val) (words_s h29 h35 a0 a1 a2 h0 hs hD hG),
    values_v h29 h35 a0 a1 a2 h0 hs hD hG, funext hps]

end Cert.Match
-- ==== Proof.Dist.lean ====
module

public import proofs.«01_k».proof.Proof.Meet

/-! The similarities: the body's are the reference's, and they are bounded. -/

@[expose] public section

set_option maxRecDepth 16384

noncomputable section

namespace Cert.Match

open Idealize.ShloMosaic Idealize.ShloMosaic.TcCoe Idealize.SL.Sem

/-! ## A vector divided by its length -/

/-- The printed smallest length is a positive real number. -/
theorem ofBits_small : ∃ r : ℝ, 0 < r ∧ Ideal.ofBits .f32 0x2B8CBCCC#32 = (r : EReal) := by
  refine ⟨9223372 * 2 ^ (-63 : ℤ), by positivity, ?_⟩
  simp [Ideal.ofBits, Ideal.ieee]
  try norm_cast

/-- A square is not negative. -/
theorem sq_nonneg' (x : EReal) : 0 ≤ x * x := by
  induction x with
  | bot => simp
  | top => simp
  | coe r => rw [← EReal.coe_mul]; exact EReal.coe_nonneg.mpr (mul_self_nonneg r)

/-- A sum of real numbers is a real number. -/
theorem coe_sum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- Component `k` of the vector `x` divided by its length (or by the smallest length). -/
def unit {n : ℕ} (x : Fin n → EReal) (k : Fin n) : EReal :=
  Ideal.div (x k) (max (Ideal.sqrt (∑ i, x i * x i)) (Ideal.ofBits .f32 0x2B8CBCCC#32))

/-- Such a component is a real number between -1 and 1, whatever the vector. -/
theorem unit_real {n : ℕ} (x : Fin n → EReal) (k : Fin n) : ∃ r : ℝ, unit x k = (r : EReal) ∧ |r| ≤ 1 := by
  obtain ⟨c, hc, ec⟩ := ofBits_small
  unfold unit
  rw [ec]
  by_cases h : ∀ i, ∃ r : ℝ, x i = (r : EReal)
  · choose y hy using h
    have hS : (∑ i, x i * x i) = ((∑ i, y i * y i : ℝ) : EReal) := by
      rw [← coe_sum]
      exact Finset.sum_congr rfl fun i _ => by rw [hy, EReal.coe_mul]
    have h0 : 0 ≤ ∑ i, y i * y i := Finset.sum_nonneg fun i _ => mul_self_nonneg _
    have hM : max ((Real.sqrt (∑ i, y i * y i) : ℝ) : EReal) (c : EReal) = ((max (Real.sqrt (∑ i, y i * y i)) c : ℝ) : EReal) :=
      (Monotone.map_max (fun a b h => EReal.coe_le_coe_iff.mpr h)).symm
    have hpos : 0 < max (Real.sqrt (∑ i, y i * y i)) c := lt_of_lt_of_le hc (le_max_right _ _)
    rw [hS, Ideal.sqrt_coe, if_neg (not_lt.mpr h0), hM, Ideal.div_coe hpos.ne', hy k, ← EReal.coe_mul]
    refine ⟨_, rfl, ?_⟩
    rw [mul_one_div, abs_div, abs_of_pos hpos, div_le_one hpos]
    refine le_trans (Real.abs_le_sqrt ?_) (le_max_left _ _)
    rw [pow_two]
    exact Finset.single_le_sum (f := fun i => y i * y i) (fun i _ => mul_self_nonneg _) (Finset.mem_univ k)
  · push Not at h
    obtain ⟨i, hi⟩ := h
    have ht : x i * x i = ⊤ := by
      induction hx : x i with
      | bot => rfl
      | top => rfl
      | coe r => exact absurd hx (hi r)
    have hS : (∑ i, x i * x i) = ⊤ := by
      refine top_le_iff.mp ?_
      rw [← ht]
      exact Finset.single_le_sum (f := fun i => x i * x i) (fun i _ => sq_nonneg' _) (Finset.mem_univ i)
    rw [hS, Ideal.sqrt_top, max_eq_left le_top]
    refine ⟨0, ?_, by simp⟩
    unfold Ideal.div
    rw [if_neg (by simp), EReal.inv_top, mul_zero, EReal.coe_zero]

/-- The similarity of two vectors under a mask entry. -/
def sim (x y : Fin 768 → EReal) (z : EReal) : EReal :=
  (∑ d, unit x d * unit y d) * z + (1 - z) * Ideal.ofBits .f32 0xC7C35000#32

/-- Where the mask is zero the similarity is the penalty. -/
theorem sim_zero (x y : Fin 768 → EReal) : sim x y 0 = NEG := by
  unfold sim
  rw [mul_zero, zero_add, ofBits_NEG, sub_zero, one_mul]

/-- Where the mask is one it is a real number between -768 and 768. -/
theorem sim_one (x y : Fin 768 → EReal) : ∃ r : ℝ, sim x y 1 = (r : EReal) ∧ -768 ≤ r ∧ r ≤ 768 := by
  choose f hf hf1 using unit_real x
  choose g hg hg1 using unit_real y
  have h : sim x y 1 = ((∑ d, f d * g d : ℝ) : EReal) := by
    unfold sim
    rw [mul_one, show (1 : EReal) - 1 = 0 from EReal.sub_self (EReal.coe_ne_top 1) (EReal.coe_ne_bot 1), zero_mul, add_zero, ← coe_sum]
    exact Finset.sum_congr rfl fun d _ => by rw [hf, hg, EReal.coe_mul]
  refine ⟨_, h, abs_le.mp ?_⟩
  calc |∑ d, f d * g d| ≤ ∑ d, |f d * g d| := Finset.abs_sum_le_sum_abs _ _
    _ ≤ ∑ _d : Fin 768, (1 : ℝ) := Finset.sum_le_sum fun d _ => by
        rw [abs_mul]; exact mul_le_one₀ (hf1 d) (abs_nonneg _) (hg1 d)
    _ = 768 := by simp

/-- Similarities under a mask of zeros and ones, all ones or without a greatest entry zero, are good. -/
theorem good_of (D : Fin 8 → Fin 2048 → EReal) (x : Fin 8 → Fin 768 → EReal) (y : Fin 2048 → Fin 768 → EReal) (z : Fin 2048 → EReal)
    (hD : ∀ n t, D n t = sim (x n) (y t) (z t)) (h1 : ∀ t, z t = 0 ∨ z t = 1) (h2 : (∀ t, z t = 1) ∨ ∀ n, rowMax (D n) ≠ 0) :
    Good D where
  event t := by
    rcases h1 t with h | h
    · exact Or.inl fun n => by rw [hD, h, sim_zero]
    · exact Or.inr fun n => by rw [hD, h]; exact sim_one _ _
  tie := h2.imp (fun h t n => by rw [hD, h]; exact sim_one _ _) id

end Cert.Match

namespace Cert.MatchRef

open Cert.ReferenceIdeal Cert.ReferenceIdeal.Gen Cert.ReferenceIdeal.Step
open Idealize.ShloMosaic Idealize.ShloMosaic.TcCoe Idealize.SL.Sem Cert.Match

/-- The reference's similarities. -/
theorem sims_at (a0 : FVec Ideal S4x2048x768 .f32) (a1 : FVec Ideal S4x2048 .f32) (a2 : FVec Ideal S256x768x8 .f32)
    (b : Fin 4) (p : Fin 256) (t : Fin 2048) (n : Fin 8) : (A_main_v20 (F := Ideal) a0 a1 a2 (ix4 b p t n) : EReal)
      = sim (fun d => a2 (ix3 p d n)) (fun d => a0 (ix3 b t d)) (a1 (ix2 b t)) := by
  unfold sim unit
  pointwise [A_main_v20,A_main_v19,A_main_v18,A_main_v16,A_main_v14,A_main_v13,A_main_v12,A_main_v11,A_main_v10,A_main_v9,A_main_v8,A_main_v7,A_main_v5,A_main_call1_v2,A_main_call1_v1,A_main_call1_v0,A_main_v4,A_main_v3,A_main_v2,A_main_v0,A_main_call0_v2,A_main_call0_v1,A_main_call0_v0,K_main_v17,K_main_v15,K_main_v6,K_main_v1,K_main_cst,K_main_cst_0,K_main_cst_1,K_main_cst_2,K_main_call0_cst,K_main_call1_cst]

/-- They are what the search reads. -/
theorem DRef_eq (X : ℕ → State Ideal) (a0 : FVec Ideal S4x2048x768 .f32) (a1 : FVec Ideal S4x2048 .f32) (a2 : FVec Ideal S256x768x8 .f32)
    (h0 : X 0 = init (F := Ideal) a0 a1 a2) (b : Fin 4) (p : Fin 256) (n : Fin 8) (t : Fin 2048) :
    DRef X b p n t = sim (fun d => a2 (ix3 p d n)) (fun d => a0 (ix3 b t d)) (a1 (ix2 b t)) := by
  unfold DRef
  rw [h0]
  exact sims_at a0 a1 a2 b p t n

end Cert.MatchRef

namespace Cert.MatchRun

open Cert.KernelIdeal Cert.KernelIdeal.Gen
open Idealize.ShloMosaic Idealize.ShloMosaic.TcCoe Idealize.SL.Sem Cert.Match

/-- The normalised embeddings. -/
theorem pay4_at (x : Vec Ideal S1x2048x768 .f32) (d : Fin 768) (t : Fin 2048) :
    ((k0_pay4 x : FVec Ideal S768x2048 .f32) (ix2 d t) : EReal) = unit (fun d => x (ix3 0 t d)) d := by
  unfold unit
  pointwise [k0_pay4]

/-- The normalised prototypes, row by row, -/
theorem pay5_row (x : Vec Ideal S8x128x768 .f32) (r : Fin 1024) (d : Fin 768) :
    ((k0_pay5 x : FVec Ideal S1024x768 .f32) (ix2 r d) : EReal)
      = unit (fun d => x (ix3 (⟨r.val / 128, by omega⟩ : Fin 8) (⟨r.val % 128, by omega⟩ : Fin 128) d)) d := by
  unfold unit
  pointwise [k0_pay5]

/-- and by segment and prototype. -/
theorem pay5_at (x : Vec Ideal S8x128x768 .f32) (r : Fin 1024) (d : Fin 768) (n : Fin 8) (p : Fin 128) (hr : r.val = n.val * 128 + p.val) :
    ((k0_pay5 x : FVec Ideal S1024x768 .f32) (ix2 r d) : EReal) = unit (fun d => x (ix3 n p d)) d := by
  have h := pay5_row x r d
  rw [show (⟨r.val / 128, by omega⟩ : Fin 8) = n from Fin.ext (by show r.val / 128 = n.val; omega),
    show (⟨r.val % 128, by omega⟩ : Fin 128) = p from Fin.ext (by show r.val % 128 = p.val; omega)] at h
  exact h

/-- The body's similarities. -/
theorem pay6_at (x : Vec Ideal S1024x768 .f32) (y : Vec Ideal S768x2048 .f32) (z : Vec Ideal S1x1x2048 .f32)
    (n : Fin 8) (p : Fin 128) (t : Fin 2048) : ((k0_pay6 x y z : FVec Ideal S8x128x2048 .f32) (ix3 n p t) : EReal)
      = (∑ d, x (ix2 ⟨n.val * 128 + p.val, by omega⟩ d) * y (ix2 d t)) * z (ix3 0 0 t)
        + (1 - z (ix3 0 0 t)) * Ideal.ofBits .f32 0xC7C35000#32 := by
  pointwise [k0_pay6]

/-- The body's similarity of a segment and an event, from the blocks of prototypes, events and mask. -/
theorem DAt_eq (x : Vec Ideal S8x128x768 .f32) (y : Vec Ideal S1x2048x768 .f32) (z : Vec Ideal S1x1x2048 .f32)
    (n : Fin 8) (p : Fin 128) (t : Fin 2048) : DAt (k0_pay6 (k0_pay5 x) (k0_pay4 y) z) p n t
      = sim (fun d => x (ix3 n p d)) (fun d => y (ix3 0 t d)) (z (ix3 0 0 t)) := by
  unfold DAt sim
  rw [pay6_at]
  refine congrArg₂ (· + ·) (congrArg (· * _) (Finset.sum_congr rfl fun d _ => ?_)) rfl
  rw [pay5_at x _ d n p rfl, pay4_at]

/-- The greatest similarity of a segment. -/
theorem rowMax_at (v : FVec Ideal S8x128x2048 .f32) (n : Fin 8) (p : Fin 128) :
    (multiReduction .maximumf [2] S8x128 v 0xFF800000#32 reduces_S8x128x2048_S8x128 (.inl rfl) rfl (ix2 n p) : EReal)
      = rowMax (DAt v p n) := by
  unfold rowMax DAt
  rw [← ofBits_bot]
  pointwise

/-- The greatest similarity of a prototype, marked. -/
theorem first_at (v : FVec Ideal S8x128 .f32) (n : Fin 8) (p : Fin 128) :
    select (cmpf .oeq v (broadcastTo S8x128 (shapeCast S1x128 (multiReduction .maximumf [0] S128 v 0xFF800000#32 reduces_S8x128_S128 (.inl rfl) rfl)
        shapeCasts_S128_S1x128) broadcasts_S1x128_S8x128)) (iota .tc S8x128 32 [0] iota_S8x128_d0_w32) (broadcast S8x128 8#32) (ix2 n p)
      = if (v (ix2 n p) : EReal) = rowMax (fun n => (v (ix2 n p) : EReal)) then BitVec.ofNat 32 n.val else 8#32 := by
  unfold rowMax
  rw [← ofBits_bot]
  pointwise

variable (x : Vec Ideal S1024x768 .f32) (y : Vec Ideal S768x2048 .f32) (z : Vec Ideal S1x1x2048 .f32)

/-- The body's greatest similarity of each segment. -/
theorem pay8_at (n : Fin 8) (p : Fin 128) : ((k0_pay8 x y z : FVec Ideal S8x128 .f32) (ix2 n p) : EReal) = rowMax (DAt (k0_pay6 x y z) p n) := by
  unfold k0_pay8
  exact rowMax_at (k0_pay6 x y z) n p

/-- That with the penalty added: what a used segment counts for. -/
theorem pay9_at (n : Fin 8) (p : Fin 128) : k0_pay9 x y z (ix2 n p) = (rowMax (DAt (k0_pay6 x y z) p n) + NEG : EReal) := by
  rw [← ofBits_NEG, ← pay8_at]
  rfl

/-- The body's marks of the best segments of all: their numbers, and 8 at the others. -/
theorem pay10_at (n : Fin 8) (p : Fin 128) : k0_pay10 x y z (ix2 n p)
    = if rowMax (DAt (k0_pay6 x y z) p n) = rowMax (fun n => rowMax (DAt (k0_pay6 x y z) p n)) then BitVec.ofNat 32 n.val else 8#32 := by
  unfold k0_pay10
  rw [← funext fun n => pay8_at x y z n p, ← pay8_at x y z n p]
  exact first_at (k0_pay8 x y z) n p

end Cert.MatchRun

end
-- ==== Proof.BodyRun.lean ====
module

public import proofs.«01_k».proof.Proof.BodyTail

@[expose] public section

/-!
The kernel body at one grid point: its first part fills the scratch buffers where its two branches say so and reads
them; the rest turns what was read into the three output blocks.
-/

set_option maxRecDepth 16384

noncomputable section

namespace Cert.MatchRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the embeddings of the batch, normalised and transposed, into the first scratch. -/
def progE (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) : Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v905 : Vec F S1x2048x768 .f32 ← Prog.lift (.load arg2 (Rect.unit (s := S1x2048x768) ![0, 0, 0] S1x2048x768.size inb_S1x2048x768_S1x2048x768_0_0_0).toLoadRect (View.loadsAt_vmem h_S1x2048x768))
    let v916 : Vec F S768x2048 .f32 ← Prog.lift (.load arg9 (Rect.unit (s := S768x2048) ![0, 0] S768x2048.size inb_S768x2048_S768x2048_0_0).toLoadRect (View.loadsAt_vmem h_S768x2048))
    Prog.lift (.store arg9 (Rect.unit (s := S768x2048) ![0, 0] S768x2048.size inb_S768x2048_S768x2048_0_0) (k0_pay4 v905) Finset.univ (View.stores_vmem_bits_univ h_S768x2048 rfl) (.inl rfl))
    pure ⟨⟩
  else do
    pure ⟨⟩

/-- The second branch: this point's prototypes, normalised, into their rows of the second scratch. -/
def progQ (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) : Prog (TpuEff nD τ sig (Elt F) Λ₀ .tc) PUnit := do
  if k0_h2 : k0_cond2 i = 1#1 then do
    let v905 : Vec F S8x128x768 .f32 ← Prog.lift (.load arg4 (Rect.unit (s := S8x128x768) ![0, 0, 0] S8x128x768.size inb_S8x128x768_S8x128x768_0_0_0).toLoadRect (View.loadsAt_vmem h_S8x128x768))
    let v919 : Vec F S1024x768 .f32 ← Prog.lift (.load arg10 (Rect.unit (s := S2048x768) (k0_off1 i) S1024x768.size (k0_off1_inb i k0_h2)).toLoadRect (View.loadsAt_vmem h_S1024x768))
    Prog.lift (.store arg10 (Rect.unit (s := S2048x768) (k0_off1 i) S1024x768.size (k0_off1_inb i k0_h2)) (k0_pay5 v905) Finset.univ (View.stores_vmem_bits_univ h_S1024x768 rfl) (.inl rfl))
    pure ⟨⟩
  else do
    pure ⟨⟩

/-- The reads after the branches, and the distances. -/
def progR (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) : Prog (TpuEff nD τ sig (Elt F) Λ₀ .tc) (Σ' (v22 : FVec F S8x128x2048 .f32) (v23 : IVec S8x128 32) (v24 : IVec S128x2048 32) (v25 : IVec S128x8 32) (v26 : IVec S8x128 1) (v29 : FVec F S8x128 .f32), IVec S8x128 32) := do
  let v9 : Vec F S1024x768 .f32 ← Prog.lift (.load arg10 (Rect.unit (s := S2048x768) (k0_off2 i) S1024x768.size (k0_off2_inb i)).toLoadRect (View.loadsAt_vmem h_S1024x768))
  let v10 : Vec F S768x2048 .f32 ← Prog.lift (.load arg9 (Rect.unit (s := S768x2048) ![0, 0] S768x2048.size inb_S768x2048_S768x2048_0_0).toLoadRect (View.loadsAt_vmem h_S768x2048))
  let v12 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  have v23 : IVec S8x128 32 := iota .tc S8x128 32 [0] iota_S8x128_d0_w32
  have v24 : IVec S128x2048 32 := iota .tc S128x2048 32 [1] iota_S128x2048_d1_w32
  have v25 : IVec S128x8 32 := iota .tc S128x8 32 [1] iota_S128x8_d1_w32
  pure ⟨k0_pay6 v9 v10 v12, v23, v24, v25, k0_pay7, k0_pay9 v9 v10 v12, k0_pay10 v9 v10 v12⟩

/-- The first part is the two branches and the reads, in this order. -/
theorem part1_eq (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) :
    k0_part1_skel (F := F) i arg2 harg2 arg3 harg3 arg4 harg4 arg5 harg5 arg6 harg6 arg7 harg7 arg8 harg8 arg9 harg9 arg10 harg10 = (progE i arg2 harg2 arg3 harg3 arg4 harg4 arg5 harg5 arg6 harg6 arg7 harg7 arg8 harg8 arg9 harg9 arg10 harg10 >>= fun _ => progQ i arg2 harg2 arg3 harg3 arg4 harg4 arg5 harg5 arg6 harg6 arg7 harg7 arg8 harg8 arg9 harg9 arg10 harg10 >>= fun _ => progR i arg2 harg2 arg3 harg3 arg4 harg4 arg5 harg5 arg6 harg6 arg7 harg7 arg8 harg8 arg9 harg9 arg10 harg10) := by
  unfold progE progQ progR k0_part1_skel
  by_cases hc0 : condE i <;> by_cases hc1 : condQ i <;> unfold condE at hc0 <;> unfold condQ at hc1 <;>
    dsimp only <;> simp only [hc0, hc1, dite_true, dite_false, reduceDIte, bind_assoc, pure_bind]

/-- The first scratch after the first branch. -/
def newE (i : grid0.Coords) (x0 : Vec F S1x2048x768 .f32) (d0 : Vec F S768x2048 .f32) : Vec F S768x2048 .f32 :=
  open Classical in if condE i then k0_pay4 x0 else d0

/-- The second scratch after the second branch. -/
def newQ (i : grid0.Coords) (x2 : Vec F S8x128x768 .f32) (d1 : Vec F S2048x768 .f32) : Vec F S2048x768 .f32 :=
  open Classical in if condQ i then VecWindow.put d1 (k0_off1 i) S1024x768.size (k0_pay5 x2) else d1

/-- A grid point's rows of the second scratch. -/
abbrev rowsAt (i : grid0.Coords) (d : Vec F S2048x768 .f32) : Vec F S1024x768 .f32 :=
  VecWindow.window d (k0_off2 i) S1024x768.size (k0_off2_inb i)

set_option maxHeartbeats 1000000 in
/-- The first branch leaves `newE` in the first scratch. -/
theorem progE_run (c : Dev nD) (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (x0 : Vec F S1x2048x768 .f32) (d0 : Vec F S768x2048 .f32) (E : Set ℕ) (K : PUnit → sProp 𝕄) :
    iprop(owns (c : Thread nD τ) arg2 fullShare x0 ∗ owns (c : Thread nD τ) arg9 fullShare d0 ∗ (iprop(owns (c : Thread nD τ) arg2 fullShare x0 ∗ owns (c : Thread nD τ) arg9 fullShare (newE i x0 d0)) -∗ K ⟨⟩))
      ⊢ wp frame (wpE (defs₀ (F := F)) Variants.none c none) E (progE i arg2 harg2 arg3 harg3 arg4 harg4 arg5 harg5 arg6 harg6 arg7 harg7 arg8 harg8 arg9 harg9 arg10 harg10) K := by
  unfold progE
  by_cases hc0 : condE i
  · unfold newE owns
    rw [if_pos hc0]
    iintro ⟨⟨%f0, %hf0, H0⟩, ⟨%fs0, %hs0, HS0⟩, Hk⟩
    obtain rfl := harg2.eq_unread hf0; obtain rfl := harg9.eq_unread hs0
    sl_exec (disch := sl_exact hc0)
    sl_step
    iapply Hk
    isplitl [H0]
    · iexists _; isplitr; · ipureintro; exact hf0
      iexact H0
    iexists _; isplitr; swap; · iexact HS0
    ipureintro
    refine (View.read_writes_full _ _ _ _ []).trans ?_
    show k0_pay4 (View.readAt (Elt F) arg2.view (Rect.unit ![0, 0, 0] S1x2048x768.size inb_S1x2048x768_S1x2048x768_0_0_0).toLoadRect (harg2.unread x0)) = _
    rw [View.readAt_full, hf0]
  · unfold newE
    rw [if_neg hc0]
    iintro ⟨H0, HS0, Hk⟩
    sl_exec (disch := sl_exact hc0)
    sl_step
    iapply Hk
    isplitl [H0]; · iexact H0
    iexact HS0

set_option maxHeartbeats 1000000 in
/-- The second branch leaves `newQ` in the second scratch. -/
theorem progQ_run (c : Dev nD) (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (x2 : Vec F S8x128x768 .f32) (d1 : Vec F S2048x768 .f32) (E : Set ℕ) (K : PUnit → sProp 𝕄) :
    iprop(owns (c : Thread nD τ) arg4 fullShare x2 ∗ owns (c : Thread nD τ) arg10 fullShare d1 ∗ (iprop(owns (c : Thread nD τ) arg4 fullShare x2 ∗ owns (c : Thread nD τ) arg10 fullShare (newQ i x2 d1)) -∗ K ⟨⟩))
      ⊢ wp frame (wpE (defs₀ (F := F)) Variants.none c none) E (progQ i arg2 harg2 arg3 harg3 arg4 harg4 arg5 harg5 arg6 harg6 arg7 harg7 arg8 harg8 arg9 harg9 arg10 harg10) K := by
  unfold progQ
  by_cases hc1 : condQ i
  · unfold newQ owns
    rw [if_pos hc1]
    iintro ⟨⟨%f0, %hf0, H0⟩, ⟨%fs0, %hs0, HS0⟩, Hk⟩
    obtain rfl := harg4.eq_unread hf0; obtain rfl := harg10.eq_unread hs0
    sl_exec (disch := sl_exact hc1)
    sl_step
    iapply Hk
    isplitl [H0]
    · iexists _; isplitr; · ipureintro; exact hf0
      iexact H0
    iexists _; isplitr; swap; · iexact HS0
    ipureintro
    refine (View.read_writes_cons_put _ _ _ _ [] rfl).trans ?_
    rw [View.writes_nil, hs0]
    show VecWindow.put d1 (k0_off1 i) S1024x768.size (k0_pay5 (View.readAt (Elt F) arg4.view (Rect.unit ![0, 0, 0] S8x128x768.size inb_S8x128x768_S8x128x768_0_0_0).toLoadRect (harg4.unread x2))) = _
    rw [View.readAt_full, hf0]
  · unfold newQ
    rw [if_neg hc1]
    iintro ⟨H0, HS0, Hk⟩
    sl_exec (disch := sl_exact hc1)
    sl_step
    iapply Hk
    isplitl [H0]; · iexact H0
    iexact HS0

set_option maxHeartbeats 1000000 in
/-- The reads give the distances of the scratch buffers and the mask. -/
theorem progR_run (c : Dev nD) (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (x1 : Vec F S1x1x2048 .f32) (d0 : Vec F S768x2048 .f32) (d1 : Vec F S2048x768 .f32) (E : Set ℕ) (K : _ → sProp 𝕄) :
    iprop(owns (c : Thread nD τ) arg3 fullShare x1 ∗ owns (c : Thread nD τ) arg9 fullShare d0 ∗ owns (c : Thread nD τ) arg10 fullShare d1 ∗ (iprop(owns (c : Thread nD τ) arg3 fullShare x1 ∗ owns (c : Thread nD τ) arg9 fullShare d0 ∗ owns (c : Thread nD τ) arg10 fullShare d1) -∗ K ⟨k0_pay6 (rowsAt i d1) d0 x1, subs, evs, slots, k0_pay7, k0_pay9 (rowsAt i d1) d0 x1, k0_pay10 (rowsAt i d1) d0 x1⟩))
      ⊢ wp frame (wpE (defs₀ (F := F)) Variants.none c none) E (progR i arg2 harg2 arg3 harg3 arg4 harg4 arg5 harg5 arg6 harg6 arg7 harg7 arg8 harg8 arg9 harg9 arg10 harg10) K := by
  unfold progR owns subs evs slots
  iintro ⟨⟨%f1, %hf1, H1⟩, ⟨%fs0, %hs0, HS0⟩, ⟨%fs1, %hs1, HS1⟩, Hk⟩
  obtain rfl := harg3.eq_unread hf1; obtain rfl := harg9.eq_unread hs0; obtain rfl := harg10.eq_unread hs1
  sl_exec
  sl_step
  rw [View.readAt_unit _ _ _ rfl (k0_off2_inb i), View.readAt_full, View.readAt_full, hf1, hs0, hs1]
  unfold progR_run.sl.v23 progR_run.sl.v24 progR_run.sl.v25
  iapply Hk
  isplitl [H1]
  · iexists _; isplitr; · ipureintro; exact hf1
    iexact H1
  isplitl [HS0]
  · iexists _; isplitr; · ipureintro; exact hs0
    iexact HS0
  iexists _; isplitr; · ipureintro; exact hs1
  iexact HS1

set_option maxHeartbeats 1000000 in
/-- THE BODY at a grid point: the inputs stay, the scratch buffers are updated by the branches, and the outputs are
the functions `outAct` and `outIdx` of the distances. -/
theorem body_run (c : Dev nD) (i : grid0.Coords) (arg2 : Memref sig .tc .vmem S1x2048x768 .f32) (harg2 : arg2.IsWhole) (arg3 : Memref sig .tc .vmem S1x1x2048 .f32) (harg3 : arg3.IsWhole) (arg4 : Memref sig .tc .vmem S8x128x768 .f32) (harg4 : arg4.IsWhole) (arg5 : Memref sig .tc .vmem S1x8 .f32) (harg5 : arg5.IsWhole) (arg6 : Memref sig .tc .vmem S1x1x128x1 .f32) (harg6 : arg6.IsWhole) (arg7 : Memref sig .tc .vmem S1x1x128x1 .f32) (harg7 : arg7.IsWhole) (arg8 : Memref sig .tc .vmem S1x1x128x8 .f32) (harg8 : arg8.IsWhole) (arg9 : Memref sig .tc .vmem S768x2048 .f32) (harg9 : arg9.IsWhole) (arg10 : Memref sig .tc .vmem S2048x768 .f32) (harg10 : arg10.IsWhole) (x0 : Vec F S1x2048x768 .f32) (x1 : Vec F S1x1x2048 .f32) (x2 : Vec F S8x128x768 .f32) (x3 : Vec F S1x8 .f32)
    (d0 : Vec F S768x2048 .f32) (d1 : Vec F S2048x768 .f32) (E : Set ℕ) (K : PUnit → sProp 𝕄)
    (q : Vec F S1024x768 .f32) (e : Vec F S768x2048 .f32) (hq : rowsAt i (newQ i x2 d1) = q) (he : newE i x0 d0 = e) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d0 ∗ owns (c : Thread nD τ) arg10 fullShare d1
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay1 (outAct (k0_pay6 q e x1) (k0_pay9 q e x1) (k0_pay10 q e x1) x3))
          ∗ owns (c : Thread nD τ) arg7 fullShare (k0_pay2 (outAct (k0_pay6 q e x1) (k0_pay9 q e x1) (k0_pay10 q e x1) x3))
          ∗ owns (c : Thread nD τ) arg8 fullShare (k0_pay3 (outIdx (k0_pay6 q e x1) (k0_pay9 q e x1) (k0_pay10 q e x1)))
          ∗ owns (c : Thread nD τ) arg9 fullShare e ∗ owns (c : Thread nD τ) arg10 fullShare (newQ i x2 d1)) -∗ K ⟨⟩))
      ⊢ wp frame (wpE (defs₀ (F := F)) Variants.none c none) E (cc0__matcher_kernel i arg2 harg2 arg3 harg3 arg4 harg4 arg5 harg5 arg6 harg6 arg7 harg7 arg8 harg8 arg9 harg9 arg10 harg10) K := by
  rw [cc0__matcher_kernel_eq_skeleton, body_eq, k0_part1_eq_skeleton, part1_eq, wp_bind, wp_bind]
  iintro ⟨H0, H1, H2, H3, H4, H5, H6, HS0, HS1, Hk⟩
  iapply (progE_run c i arg2 harg2 arg3 harg3 arg4 harg4 arg5 harg5 arg6 harg6 arg7 harg7 arg8 harg8 arg9 harg9 arg10 harg10 x0 d0 E _)
  isplitl [H0]; · iexact H0
  isplitl [HS0]; · iexact HS0
  iintro ⟨H0, HS0⟩
  rw [wp_bind]
  iapply (progQ_run c i arg2 harg2 arg3 harg3 arg4 harg4 arg5 harg5 arg6 harg6 arg7 harg7 arg8 harg8 arg9 harg9 arg10 harg10 x2 d1 E _)
  isplitl [H2]; · iexact H2
  isplitl [HS1]; · iexact HS1
  iintro ⟨H2, HS1⟩
  rw [he]
  iapply (progR_run c i arg2 harg2 arg3 harg3 arg4 harg4 arg5 harg5 arg6 harg6 arg7 harg7 arg8 harg8 arg9 harg9 arg10 harg10 x1 e (newQ i x2 d1) E _)
  isplitl [H1]; · iexact H1
  isplitl [HS0]; · iexact HS0
  isplitl [HS1]; · iexact HS1
  iintro ⟨H1, HS0, HS1⟩
  rw [hq, tail_eq]
  iapply (tail_run c i arg2 harg2 arg3 harg3 arg4 harg4 arg5 harg5 arg6 harg6 arg7 harg7 arg8 harg8 arg9 harg9 arg10 harg10 _ _ _ x3 E K)
  isplitl [H3]; · iexact H3
  isplitl [H4]; · iexact H4
  isplitl [H5]; · iexact H5
  isplitl [H6]; · iexact H6
  iintro ⟨H3, H4, H5, H6⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

end Cert.MatchRun
end
-- ==== Proof.KernelRun.lean ====
module

public import proofs.«01_k».proof.Proof.BodyRun
public import Idealize.ShloMosaic.Lib.Claim
public import Idealize.ShloMosaic.Lib.Pipeline.Value

@[expose] public section

/-!
The run of the whole kernel: the grid's points one after another keep the two scratch buffers at the normalised
embeddings of the current batch and the normalised prototypes seen so far, every point's output blocks are named, and
every fair execution ends with the arrays the points wrote.
-/

set_option maxRecDepth 16384

noncomputable section

namespace Cert.MatchRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The first coordinate of a point. -/
theorem coords_zero (t : Fin cfg0.N) : (grid0.coords t 0).val = t.val / 2 % 4 := Pipeline.Grid.coords_val t 0 (by decide) rfl
/-- The second coordinate of a point. -/
theorem coords_one (t : Fin cfg0.N) : (grid0.coords t 1).val = t.val / 1 % 2 := Pipeline.Grid.coords_val t 1 (by decide) rfl

/-- The grid has eight points. -/
theorem lt8 (t : Fin cfg0.N) : t.val < 8 := Nat.lt_of_lt_of_eq t.isLt N_0

/-- The first branch is taken at a batch's first point. -/
theorem condE_iff (t : Fin cfg0.N) : condE (grid0.coords t) ↔ t.val % 2 = 0 := by
  have ht := lt8 t
  have e1 := coords_one t
  simp only [condE, e1]
  word_cmp

/-- The second branch is taken at the first batch's points. -/
theorem condQ_iff (t : Fin cfg0.N) : condQ (grid0.coords t) ↔ t.val < 2 := by
  have ht := lt8 t
  have e0 := coords_zero t
  simp only [condQ, k0_cond2, e0]
  word_cmp

/-- A point's prototype rows start at 1024 times its second coordinate. -/
theorem off2_eq (t : Fin cfg0.N) : k0_off2 (grid0.coords t) = ![1024 * (t.val % 2), 0] := by
  have e1 := coords_one t
  unfold k0_off2
  rw [e1, Nat.div_one]
  rcases Nat.mod_two_eq_zero_or_one t.val with h | h <;> rw [h] <;> rfl

/-- The rows a point writes start where those it reads do. -/
theorem off1_eq (t : Fin cfg0.N) : k0_off1 (grid0.coords t) = ![1024 * (t.val % 2), 0] := off2_eq t

/-- The first point of a point's batch. -/
def ptE (t : Fin cfg0.N) : Fin cfg0.N := ⟨t.val / 2 * 2, lt_of_le_of_lt (Nat.div_mul_le_self _ _) t.isLt⟩
/-- The first batch's point with the same prototypes. -/
def ptQ (t : Fin cfg0.N) : Fin cfg0.N := ⟨t.val % 2, lt_of_le_of_lt (Nat.mod_le _ _) t.isLt⟩

/-- Points with the same second coordinate have the same rows. -/
theorem rowsAt_congr {t u : Fin cfg0.N} (h : t.val % 2 = u.val % 2) (d : Vec F S2048x768 .f32) :
    rowsAt (grid0.coords t) d = rowsAt (grid0.coords u) d := by
  have key : ∀ (off off' : Fin 2 → ℕ) (inb : ∀ a, off a + S1024x768.size a ≤ S2048x768.size a) (inb' : ∀ a, off' a + S1024x768.size a ≤ S2048x768.size a),
      off = off' → VecWindow.window (s := S2048x768) d off S1024x768.size inb = VecWindow.window d off' S1024x768.size inb' := by
    intro off off' inb inb' e; subst e; rfl
  exact key _ _ _ _ ((off2_eq t).trans ((congrArg (fun k => ![1024 * k, 0]) h).trans (off2_eq u).symm))

/-! ## What the points compute -/

/-- The normalised prototypes a point works with. -/
def qAt (c : Dev nD) (t : Fin cfg0.N) : Vec F S1024x768 .f32 := k0_pay5 (iblk m c 2 (ptQ t))
/-- The normalised embeddings a point works with. -/
def eAt (c : Dev nD) (t : Fin cfg0.N) : Vec F S768x2048 .f32 := k0_pay4 (iblk m c 0 (ptE t))
/-- The similarities of a point. -/
def distAt (c : Dev nD) (t : Fin cfg0.N) : FVec F S8x128x2048 .f32 := k0_pay6 (qAt m c t) (eAt m c t) (iblk m c 1 t)
/-- What its used subpatches count for. -/
def negAt (c : Dev nD) (t : Fin cfg0.N) : FVec F S8x128 .f32 := k0_pay9 (qAt m c t) (eAt m c t) (iblk m c 1 t)
/-- Its marks of the best subpatches. -/
def firstAt (c : Dev nD) (t : Fin cfg0.N) : IVec S8x128 32 := k0_pay10 (qAt m c t) (eAt m c t) (iblk m c 1 t)

/-- The activations a point writes. -/
def actAt (c : Dev nD) (t : Fin cfg0.N) : FVec F S128x1 .f32 := outAct (distAt m c t) (negAt m c t) (firstAt m c t) (iblk m c 3 t)
/-- The index block a point writes. -/
def idxAt (c : Dev nD) (t : Fin cfg0.N) : FVec F S128x8 .f32 := outIdx (distAt m c t) (negAt m c t) (firstAt m c t)

/-- What the scratch buffers hold before point `n`: at a batch's later point its embeddings; the prototypes of the points seen. -/
def Inv (c : Dev nD) (n : ℕ) (d0 : Vec F S768x2048 .f32) (d1 : Vec F S2048x768 .f32) : Prop :=
  (∀ u : Fin cfg0.N, n % 2 = 1 → u.val = n - 1 → d0 = k0_pay4 (iblk m c 0 u))
    ∧ ∀ u : Fin cfg0.N, u.val < 2 → u.val < n → rowsAt (grid0.coords u) d1 = k0_pay5 (iblk m c 2 u)

/-- The embeddings a point reads are its batch's. -/
theorem newE_eq (c : Dev nD) (t : Fin cfg0.N) (d0 : Vec F S768x2048 .f32) (d1 : Vec F S2048x768 .f32) (h : Inv m c t.val d0 d1) :
    newE (grid0.coords t) (iblk m c 0 t) d0 = eAt m c t := by
  unfold newE eAt
  rcases Nat.mod_two_eq_zero_or_one t.val with h0 | h0
  · rw [if_pos ((condE_iff t).mpr h0), show ptE t = t from Fin.ext (by show t.val / 2 * 2 = t.val; omega)]
  · rw [if_neg fun h => by have := (condE_iff t).mp h; omega]
    exact h.1 (ptE t) h0 (by show t.val / 2 * 2 = t.val - 1; omega)

/-- The rows just put are the payload. -/
theorem rowsAt_put_same (t : Fin cfg0.N) (x : Vec F S8x128x768 .f32) (d1 : Vec F S2048x768 .f32) :
    rowsAt (grid0.coords t) (VecWindow.put d1 (k0_off1 (grid0.coords t)) S1024x768.size (k0_pay5 x)) = k0_pay5 x :=
  VecWindow.window_put_same d1 (k0_off2 (grid0.coords t)) S1024x768.size _ (k0_pay5 x)

/-- The prototypes a point reads are its own. -/
theorem newQ_eq (c : Dev nD) (t : Fin cfg0.N) (d0 : Vec F S768x2048 .f32) (d1 : Vec F S2048x768 .f32) (h : Inv m c t.val d0 d1) :
    rowsAt (grid0.coords t) (newQ (grid0.coords t) (iblk m c 2 t) d1) = qAt m c t := by
  unfold newQ qAt
  by_cases h0 : t.val < 2
  · rw [if_pos ((condQ_iff t).mpr h0), show ptQ t = t from Fin.ext (by show t.val % 2 = t.val; omega)]
    exact rowsAt_put_same t _ d1
  · rw [if_neg fun h => h0 ((condQ_iff t).mp h)]
    refine (rowsAt_congr (u := ptQ t) (by show t.val % 2 = t.val % 2 % 2; omega) d1).trans ?_
    exact h.2 (ptQ t) (by show t.val % 2 < 2; omega) (by show t.val % 2 < t.val; omega)

/-- A point keeps the invariant. -/
theorem inv_step (c : Dev nD) (t : Fin cfg0.N) (d0 : Vec F S768x2048 .f32) (d1 : Vec F S2048x768 .f32) (h : Inv m c t.val d0 d1) :
    Inv m c (t.val + 1) (eAt m c t) (newQ (grid0.coords t) (iblk m c 2 t) d1) := by
  refine ⟨fun u h1 hu => ?_, fun u hu hlt => ?_⟩
  · unfold eAt
    rw [show ptE t = u from Fin.ext (by show t.val / 2 * 2 = u.val; omega)]
  · unfold newQ
    by_cases h0 : t.val < 2
    · rw [if_pos ((condQ_iff t).mpr h0)]
      by_cases e : u = t
      · subst e; exact rowsAt_put_same u _ d1
      · have hne : u.val ≠ t.val := fun h => e (Fin.ext h)
        refine (VecWindow.window_put_of_disjoint d1 (k0_off1 (grid0.coords t)) S1024x768.size (k0_off2 (grid0.coords u)) S1024x768.size _ _ 0 ?_).trans
          (h.2 u hu (by omega))
        rw [off1_eq, off2_eq]
        show 1024 * (u.val % 2) + 1024 ≤ 1024 * (t.val % 2) ∨ 1024 * (t.val % 2) + 1024 ≤ 1024 * (u.val % 2)
        omega
    · rw [if_neg fun h => h0 ((condQ_iff t).mp h)]
      exact h.2 u hu (by omega)

/-! ## The pipeline's proof data -/

/-- The first scratch buffer. -/
abbrev scrE : Memref sig .tc .vmem S768x2048 .f32 := Memref.whole cc0_scratch0
/-- The second scratch buffer. -/
abbrev scrQ : Memref sig .tc .vmem S2048x768 .f32 := Memref.whole cc0_scratch1

/-- What the pipeline's proof is given: each input's buffer stays at its block, each output's block is named, and the scratch
buffers satisfy `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (actAt m c t)
    | ⟨5, _⟩ => k0_pay2 (actAt m c t)
    | ⟨6, _⟩ => k0_pay3 (idxAt m c t)
  Φ n := iprop((∃ d0 d1, iprop(owns (c : Thread nD τ) scrE fullShare d0 ∗ owns (c : Thread nD τ) scrQ fullShare d1 ∗ ⌜Inv m c n.val d0 d1⌝)) ∗ (∃ r, prngReg c r))
  q _ := fullShare
  owed _ := 0

/-- The arrays are those the region finds. -/
theorem dats_A (c : Dev nD) (w : Fin cfg0.W) : (dats m 0 c).A w = V m c (Pipeline.arrRef spec0 w) := by
  dsimp only [dats]

/-- The contents of window 0 after a point: its block of the input. -/
theorem after_0 (c : Dev nD) (t : Fin cfg0.N) : (dats m 0 c).after 0 t = iblk m c 0 t := by dsimp only [dats]
/-- The contents of window 1 after a point: its block of the input. -/
theorem after_1 (c : Dev nD) (t : Fin cfg0.N) : (dats m 0 c).after 1 t = iblk m c 1 t := by dsimp only [dats]
/-- The contents of window 2 after a point: its block of the input. -/
theorem after_2 (c : Dev nD) (t : Fin cfg0.N) : (dats m 0 c).after 2 t = iblk m c 2 t := by dsimp only [dats]
/-- The contents of window 3 after a point: its block of the input. -/
theorem after_3 (c : Dev nD) (t : Fin cfg0.N) : (dats m 0 c).after 3 t = iblk m c 3 t := by dsimp only [dats]
/-- The contents of window 4 after a point: the activations. -/
theorem after_4 (c : Dev nD) (t : Fin cfg0.N) : (dats m 0 c).after 4 t = k0_pay1 (actAt m c t) := by dsimp only [dats]
/-- The contents of window 5 after a point: the distances. -/
theorem after_5 (c : Dev nD) (t : Fin cfg0.N) : (dats m 0 c).after 5 t = k0_pay2 (actAt m c t) := by dsimp only [dats]
/-- The contents of window 6 after a point: the indices. -/
theorem after_6 (c : Dev nD) (t : Fin cfg0.N) : (dats m 0 c).after 6 t = k0_pay3 (idxAt m c t) := by dsimp only [dats]

/-- The contents of window 0 before a point: its block of the input. -/
theorem before_0 (c : Dev nD) (t : Fin cfg0.N) (d) : (dats m 0 c).before 0 t d = iblk m c 0 t :=
  before0_0_of m (dats m 0 c) (dats_A m c 0) (after_0 m c) t d
/-- The contents of window 1 before a point: its block of the input. -/
theorem before_1 (c : Dev nD) (t : Fin cfg0.N) (d) : (dats m 0 c).before 1 t d = iblk m c 1 t :=
  before0_1_of m (dats m 0 c) (dats_A m c 1) (after_1 m c) t d
/-- The contents of window 2 before a point: its block of the input. -/
theorem before_2 (c : Dev nD) (t : Fin cfg0.N) (d) : (dats m 0 c).before 2 t d = iblk m c 2 t :=
  before0_2_of m (dats m 0 c) (dats_A m c 2) (after_2 m c) t d
/-- The contents of window 3 before a point: its block of the input. -/
theorem before_3 (c : Dev nD) (t : Fin cfg0.N) (d) : (dats m 0 c).before 3 t d = iblk m c 3 t :=
  before0_3_of m (dats m 0 c) (dats_A m c 3) (after_3 m c) t d

/-- The invariant before point `n`, spelled out. -/
theorem dats_inv (c : Dev nD) (n : Fin (cfg0.N + 1)) : (dats m 0 c).Φ n
    = iprop((∃ d0 d1, iprop(owns (c : Thread nD τ) scrE fullShare d0 ∗ owns (c : Thread nD τ) scrQ fullShare d1 ∗ ⌜Inv m c n.val d0 d1⌝)) ∗ (∃ r, prngReg c r)) := by
  dsimp only [dats]

/-- What the launch leaves in the scratch buffers: anything. -/
theorem launchInv_eq (c : Dev nD) : (Pipeline.ΦA spec0 c : sProp 𝕄)
    = iprop(iprop((∃ d, owns (c : Thread nD τ) scrE fullShare d) ∗ (∃ d, owns (c : Thread nD τ) scrQ fullShare d)) ∗ (∃ r, prngReg c r)) := by
  unfold Pipeline.ΦA; rw [scopedRest0_eq]; simp only [scrE, scrQ, owns_whole]; try rfl

/-! ## The body at a point -/

/-- What the body is called with, window by window, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point takes the one to the other. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).owesAt () t.succ = (dats m 0 c).owesAt () t.castSucc from rfl,
    after_0, after_1, after_2, after_3, after_4, after_5, after_6, dats_inv, dats_inv]
  iintro ⟨⟨⟨%s0, %s1, HS0, HS1, %hI⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) (st0_0 t) _ (st0_1 t) _ (st0_2 t) _ (st0_3 t) _ (st0_4 t) _ (st0_5 t) _ (st0_6 t) _ scrE _ scrQ _
    (iblk m c 0 t) (iblk m c 1 t) (iblk m c 2 t) (iblk m c 3 t) s0 s1 Set.univ _ (qAt m c t) (eAt m c t) (newQ_eq m c t s0 s1 hI) (newE_eq m c t s0 s1 hI))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · iexists _; iexists _
      isplitl [HS0]; · iexact HS0
      isplitl [HS1]; · iexact HS1
      ipureintro
      exact inv_step m c t s0 s1 hI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem row_eq (t : Fin cfg0.N) :
    defs₀ (F := F) .tc cfg0.body (cfg0.bodyArgs t (cfg0.slots t)) = bodyAt0 t := by
  unfold defs₀; rw [Defs.onTc_tc]

/-- The pipeline's obligation on the body holds at every point. -/
theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

/-- Nothing is asked of the scratch buffers at the start. -/
theorem inv_start (c : Dev nD) : (Pipeline.ΦA spec0 c : sProp 𝕄) ⊢ (dats m 0 c).Φ 0 := by
  rw [launchInv_eq, dats_inv]
  iintro ⟨⟨⟨%d0, H0⟩, ⟨%d1, H1⟩⟩, Hg⟩
  isplitl [H0 H1]
  · iexists d0; iexists d1
    isplitl [H0]; · iexact H0
    isplitl [H1]; · iexact H1
    ipureintro
    exact ⟨fun u h => absurd h (by decide), fun u _ h => absurd h (Nat.not_lt_zero _)⟩
  iexact Hg

/-- At the end the scratch buffers are given back. -/
theorem inv_end (c : Dev nD) : (dats m 0 c).Φ (Fin.last cfg0.N) ⊢ (Pipeline.ΦA spec0 c : sProp 𝕄) := by
  rw [launchInv_eq, dats_inv]
  iintro ⟨⟨%d0, %d1, H0, H1, %hI⟩, Hg⟩
  isplitl [H0 H1]
  · isplitl [H0]
    · iexists _; iexact H0
    iexists _; iexact H1
  iexact Hg

set_option backward.isDefEq.respectTransparency.types false in
set_option maxHeartbeats 1000000 in
/-- THE LAUNCH: every fair execution ends with the arrays as the points wrote them and every semaphore at zero. -/
theorem launch_run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := inv_start m) (hout := inv_end m) (Q' := _) (hQ' := fun _ h => h)

/-- THE FRAME: the arguments end as they began and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.MatchRun
end
-- ==== Proof.KernelOut.lean ====
module

public import proofs.«01_k».proof.Proof.Dist
public import proofs.«01_k».proof.Proof.KernelRun
public import Idealize.ShloMosaic.Lib.Pipeline.ValueKit

@[expose] public section

/-! The arrays the kernel's run leaves, read at the reference's results. -/

set_option maxRecDepth 16384

noncomputable section

namespace Cert.MatchRun

open Cert.KernelIdeal Cert.KernelIdeal.Gen
open Idealize.ShloMosaic Idealize.ShloMosaic.TcCoe Idealize.SL.Sem Cert.Match
open Idealize.ShloMosaic.Pipeline (Dat)

variable (m : (ℓ : Loc nD τ sig) → Buf (Elt Ideal) ℓ)

/-- The windows' block indices at a point. -/
theorem idx : ∀ t : Fin cfg0.N, win0_0.index t = ![t.val / 2, 0, 0] ∧ win0_1.index t = ![t.val / 2, 0, 0] ∧ win0_2.index t = ![0, t.val % 2, 0]
    ∧ win0_3.index t = ![0, 0] ∧ win0_4.index t = ![t.val / 2, t.val % 2, 0, 0] ∧ win0_5.index t = ![t.val / 2, t.val % 2, 0, 0]
    ∧ win0_6.index t = ![t.val / 2, t.val % 2, 0, 0] :=
  (by decide +kernel : ∀ t : Fin grid0.N, _)

/-- The block of events at a point: its batch's. -/
theorem block0 (c : Dev nD) (t : Fin cfg0.N) (s : Fin 2048) (d : Fin 768) (b : Fin 4) (hb : b.val = t.val / 2) :
    iblk m c 0 t (ix3 0 s d) = m ((c : Thread nD τ).loc main_arg0) (ix3 b s d) := by
  blk_ext! [iblk, V, idx t]

/-- What the region finds in its arrays: the mask with a unit axis. -/
theorem found1 (c : Dev nD) : V m c main_v1 = broadcastInDim S4x1x2048 ![0, 2] bcast_S4x2048_S4x1x2048_0_2 (m ((c : Thread nD τ).loc main_arg1)) := by
  show StableHlo.after hostOps0 _ _ = _
  after_results
/-- The prototypes with the segments' axis first. -/
theorem found0 (c : Dev nD) : V m c main_v0 = transpose S8x256x768 [2, 0, 1] (m ((c : Thread nD τ).loc main_arg2)) transposes_S256x768x8_S8x256x768_2_0_1 := by
  show StableHlo.after hostOps0 _ _ = _
  after_results
/-- The weights as one row. -/
theorem found2 (c : Dev nD) : V m c main_v2 = shapeCast S1x8 (m ((c : Thread nD τ).loc main_arg3)) shapeCasts_S1x1x8_S1x8 := by
  show StableHlo.after hostOps0 _ _ = _
  after_results
  rfl

/-- The mask with a unit axis reads the mask. -/
theorem spread1 (x : FVec Ideal S4x2048 .f32) (b : Fin 4) (s : Fin 2048) :
    broadcastInDim S4x1x2048 ![0, 2] bcast_S4x2048_S4x1x2048_0_2 x (ix3 b 0 s) = x (ix2 b s) := by
  pointwise
/-- The transposed prototypes read the prototypes. -/
theorem turn2 (x : FVec Ideal S256x768x8 .f32) (n : Fin 8) (P : Fin 256) (d : Fin 768) :
    transpose S8x256x768 [2, 0, 1] x transposes_S256x768x8_S8x256x768_2_0_1 (ix3 n P d) = x (ix3 P d n) := by
  pointwise
/-- The row of weights reads the weights. -/
theorem flat3 (x : FVec Ideal S1x1x8 .f32) (q : Fin 8) : shapeCast S1x8 x shapeCasts_S1x1x8_S1x8 (ix2 0 q) = x (ix3 0 0 q) := by
  pointwise

/-- The block of the mask at a point: its batch's. -/
theorem block1 (c : Dev nD) (t : Fin cfg0.N) (s : Fin 2048) (b : Fin 4) (hb : b.val = t.val / 2) :
    iblk m c 1 t (ix3 0 0 s) = m ((c : Thread nD τ).loc main_arg1) (ix2 b s) := by
  refine Eq.trans ?_ ((congrFun (found1 m c) (ix3 b 0 s)).trans (spread1 _ b s))
  blk_ext! [iblk, idx t]

/-- The block of prototypes at a point: the 128 of its second coordinate. -/
theorem block2 (c : Dev nD) (t : Fin cfg0.N) (n : Fin 8) (p : Fin 128) (d : Fin 768) (P : Fin 256) (hP : P.val = 128 * (t.val % 2) + p.val) :
    iblk m c 2 t (ix3 n p d) = m ((c : Thread nD τ).loc main_arg2) (ix3 P d n) := by
  refine Eq.trans ?_ ((congrFun (found0 m c) (ix3 n P d)).trans (turn2 _ n P d))
  blk_ext! [iblk, idx t]

/-- The block of weights at a point: all of them. -/
theorem block3 (c : Dev nD) (t : Fin cfg0.N) (q : Fin 8) :
    iblk m c 3 t (ix2 0 q) = m ((c : Thread nD τ).loc main_arg3) (ix3 0 0 q) := by
  refine Eq.trans ?_ ((congrFun (found2 m c) (ix2 0 q)).trans (flat3 _ q))
  blk_ext! [iblk, idx t]

/-- The activations written are the column computed. -/
theorem pay1_at (x : Vec Ideal S128x1 .f32) (y : S1x1x128x1.Idx) : (k0_pay1 x : FVec Ideal S1x1x128x1 .f32) y = x (ix2 (y 2) 0) := by
  pointwise [k0_pay1]
/-- The distances written are eight less the column. -/
theorem pay2_at (x : Vec Ideal S128x1 .f32) (y : S1x1x128x1.Idx) : (k0_pay2 x : FVec Ideal S1x1x128x1 .f32) y = (Ideal.ofBits .f32 0x41000000#32 - x (ix2 (y 2) 0) : EReal) := by
  pointwise [k0_pay2]
/-- The indices written are the rows computed. -/
theorem pay3_at (x : Vec Ideal S128x8 .f32) (y : S1x1x128x8.Idx) : (k0_pay3 x : FVec Ideal S1x1x128x8 .f32) y = x (ix2 (y 2) (y 3)) := by
  pointwise [k0_pay3]

/-- A point's similarities. -/
theorem dist_eq (c : Dev nD) (t : Fin cfg0.N) (p : Fin 128) (b : Fin 4) (hb : b.val = t.val / 2) (P : Fin 256) (hP : P.val = 128 * (t.val % 2) + p.val)
    (n : Fin 8) (s : Fin 2048) : DAt (distAt m c t) p n s
      = sim (fun d => m ((c : Thread nD τ).loc main_arg2) (ix3 P d n)) (fun d => m ((c : Thread nD τ).loc main_arg0) (ix3 b s d))
        (m ((c : Thread nD τ).loc main_arg1) (ix2 b s)) := by
  unfold distAt qAt eAt
  rw [DAt_eq]
  have e2 := fun d => block2 m c (ptQ t) n p d P (by show P.val = 128 * (t.val % 2 % 2) + p.val; omega)
  have e0 := fun d => block0 m c (ptE t) s d b (by show b.val = t.val / 2 * 2 / 2; omega)
  have e1 := block1 m c t s b hb
  exact congr (congr (congrArg sim (funext e2)) (funext e0)) e1

/-! ## The results -/

/-- The arguments: the events. -/
abbrev in0 (c : Dev nD) : FVec Ideal S4x2048x768 .f32 := m ((c : Thread nD τ).loc main_arg0)
/-- The mask. -/
abbrev in1 (c : Dev nD) : FVec Ideal S4x2048 .f32 := m ((c : Thread nD τ).loc main_arg1)
/-- The prototypes. -/
abbrev in2 (c : Dev nD) : FVec Ideal S256x768x8 .f32 := m ((c : Thread nD τ).loc main_arg2)
/-- The weights. -/
abbrev in3 (c : Dev nD) : FVec Ideal S1x1x8 .f32 := m ((c : Thread nD τ).loc main_arg3)

open Cert.MatchRef (DRef DRef_eq rest_at)
open Cert.ReferenceIdeal.Step (State step init R_main_v33_2 R_main_v52 R_main_v54)

variable (X : ℕ → State Ideal) (c : Dev nD)
  (h0 : X 0 = init (F := Ideal) (in0 m c) (in1 m c) (in2 m c))
  (hs : ∀ n, X (n + 1) = step n (X n))
  (h1 : ∀ b s, (in1 m c (ix2 b s) : EReal) = 0 ∨ (in1 m c (ix2 b s) : EReal) = 1)
  (h2 : ∀ b : Fin 4, (∀ s : Fin 2048, (in1 m c (ix2 b s) : EReal) = 1) ∨ ∀ (P : Fin 256) (n : Fin 8), rowMax (DRef X b P n) ≠ 0)

/-- A point's similarities are the reference's. -/
theorem dist_ref (h0 : X 0 = init (F := Ideal) (in0 m c) (in1 m c) (in2 m c))
    (t : Fin cfg0.N) (p : Fin 128) (b : Fin 4) (hb : b.val = t.val / 2) (P : Fin 256) (hP : P.val = 128 * (t.val % 2) + p.val) :
    DAt (distAt m c t) p = DRef X b P := by
  funext n s
  rw [dist_eq m c t p b hb P hP n s, DRef_eq X _ _ _ h0]

/-- A point's marks are those of its similarities. -/
theorem neg_ref (t : Fin cfg0.N) (p : Fin 128) (n : Fin 8) : negAt m c t (ix2 n p) = (rowMax (DAt (distAt m c t) p n) + NEG : EReal) := by
  unfold negAt distAt
  exact pay9_at (qAt m c t) (eAt m c t) (iblk m c 1 t) n p
/-- A point's first marks are those of its greatest similarities. -/
theorem first_ref (t : Fin cfg0.N) (p : Fin 128) (n : Fin 8) : firstAt m c t (ix2 n p)
    = if rowMax (DAt (distAt m c t) p n) = rowMax (fun n => rowMax (DAt (distAt m c t) p n)) then BitVec.ofNat 32 n.val else 8#32 := by
  unfold firstAt distAt
  exact pay10_at (qAt m c t) (eAt m c t) (iblk m c 1 t) n p

include h0 hs h1 h2

/-- They are good. -/
theorem good_ref (b : Fin 4) (P : Fin 256) : Good (DRef X b P) :=
  good_of (DRef X b P) (fun n d => in2 m c (ix3 P d n)) (fun s d => in0 m c (ix3 b s d))
    (fun s => in1 m c (ix2 b s)) (fun n s => DRef_eq X _ _ _ h0 b P n s) (h1 b) ((h2 b).imp id fun h n => h P n)

/-- The activations a point writes. -/
theorem act_ref (t : Fin cfg0.N) (p : Fin 128) (b : Fin 4) (hb : b.val = t.val / 2) (P : Fin 256) (hP : P.val = 128 * (t.val % 2) + p.val) :
    actAt m c t (ix2 p 0) = R_main_v52 (X 8) (in3 m c) (ix2 b P) := by
  unfold actAt
  exact act_agree (v22 := distAt m c t) (v29 := negAt m c t) (v35 := firstAt m c t) (p := p) (X := X) (b := b) (P := P)
    (neg_ref m c t p) (first_ref m c t p) (in0 m c) (in1 m c) (in2 m c)
    h0 hs (dist_ref m X c h0 t p b hb P hP) (good_ref m X c h0 hs h1 h2 b P) (iblk m c 3 t) (in3 m c) (fun q => block3 m c t q)

/-- The events a point writes. -/
theorem idx_ref (t : Fin cfg0.N) (p : Fin 128) (q : Fin 8) (b : Fin 4) (hb : b.val = t.val / 2) (P : Fin 256) (hP : P.val = 128 * (t.val % 2) + p.val) :
    idxAt m c t (ix2 p q) = R_main_v33_2 (X 8) (ix3 b P q) := by
  unfold idxAt
  exact idx_agree (v22 := distAt m c t) (v29 := negAt m c t) (v35 := firstAt m c t) (p := p) (X := X) (b := b) (P := P)
    (neg_ref m c t p) (first_ref m c t p) (in0 m c) (in1 m c) (in2 m c)
    h0 hs (dist_ref m X c h0 t p b hb P hP) (good_ref m X c h0 hs h1 h2 b P) q

end Cert.MatchRun

end
-- ==== Proof.KernelFinal.lean ====
module

public import proofs.«01_k».proof.Proof.KernelOut

@[expose] public section

/-! The kernel's results are the reference's. -/

set_option maxRecDepth 16384

noncomputable section

namespace Cert.MatchRun

open Cert.KernelIdeal Cert.KernelIdeal.Gen
open Idealize.ShloMosaic Idealize.ShloMosaic.TcCoe Idealize.SL.Sem Cert.Match
open Idealize.ShloMosaic.Pipeline (Dat)
open Cert.MatchRef (DRef DRef_eq rest_at)
open Cert.ReferenceIdeal.Step (State step init R_main_v33_2 R_main_v52 R_main_v54)

variable (m : (ℓ : Loc nD τ sig) → Buf (Elt Ideal) ℓ) (c : Dev nD)

/-- The prototype at a block's place. -/
theorem place (j : Fin 2) (p : Fin 128) : 128 * j.val + p.val < 256 := by omega

/-- A batch and a prototype laid out by batch, block and place. -/
def byBlock (G : FVec Ideal S4x256 .f32) : FVec Ideal S4x2x128x1 .f32 := fun i => G (ix2 (i 0) ⟨128 * (i 1).val + (i 2).val, place (i 1) (i 2)⟩)
/-- The same of an array with eight entries for each prototype. -/
def byBlock8 (G : FVec Ideal S4x256x8 .f32) : FVec Ideal S4x2x128x8 .f32 := fun i => G (ix3 (i 0) ⟨128 * (i 1).val + (i 2).val, place (i 1) (i 2)⟩ (i 3))

/-- An output array whose points each write their block of the layout is the layout. -/
theorem final4 (G : FVec Ideal S4x256 .f32) (hG : ∀ (t : Fin cfg0.N) (p : Fin 128) (b : Fin 4) (_ : b.val = t.val / 2) (P : Fin 256)
    (_ : P.val = 128 * (t.val % 2) + p.val), actAt m c t (ix2 p 0) = G (ix2 b P)) :
    (dats m 0 c).arrAt 4 (cfgs 0).N = byBlock G := by
  refine (dats m 0 c).arrAt_eq_of_covers 4 _ (by decide +kernel) fun t _ y => ?_
  blk_simp
  rw [after_4]
  have ht := lt8 t
  refine (pay1_at _ y).trans ((hG t (y 2) ⟨t.val / 2, by omega⟩ rfl ⟨128 * (t.val % 2) + (y 2).val, place ⟨t.val % 2, by omega⟩ (y 2)⟩ rfl).trans ?_)
  unfold byBlock
  blk_ext [idx t]

/-- The same of the distances, which are eight less the activations. -/
theorem final5 (G : FVec Ideal S4x256 .f32) (hG : ∀ (t : Fin cfg0.N) (p : Fin 128) (b : Fin 4) (_ : b.val = t.val / 2) (P : Fin 256)
    (_ : P.val = 128 * (t.val % 2) + p.val), (Ideal.ofBits .f32 0x41000000#32 - actAt m c t (ix2 p 0) : EReal) = G (ix2 b P)) :
    (dats m 0 c).arrAt 5 (cfgs 0).N = byBlock G := by
  refine (dats m 0 c).arrAt_eq_of_covers 5 _ (by decide +kernel) fun t _ y => ?_
  blk_simp
  rw [after_5]
  have ht := lt8 t
  refine (pay2_at _ y).trans ((hG t (y 2) ⟨t.val / 2, by omega⟩ rfl ⟨128 * (t.val % 2) + (y 2).val, place ⟨t.val % 2, by omega⟩ (y 2)⟩ rfl).trans ?_)
  unfold byBlock
  blk_ext [idx t]

/-- The same of the event indices. -/
theorem final6 (G : FVec Ideal S4x256x8 .f32) (hG : ∀ (t : Fin cfg0.N) (p : Fin 128) (q : Fin 8) (b : Fin 4) (_ : b.val = t.val / 2) (P : Fin 256)
    (_ : P.val = 128 * (t.val % 2) + p.val), idxAt m c t (ix2 p q) = G (ix3 b P q)) :
    (dats m 0 c).arrAt 6 (cfgs 0).N = byBlock8 G := by
  refine (dats m 0 c).arrAt_eq_of_covers 6 _ (by decide +kernel) fun t _ y => ?_
  blk_simp
  rw [after_6]
  have ht := lt8 t
  refine (pay3_at _ y).trans ((hG t (y 2) (y 3) ⟨t.val / 2, by omega⟩ rfl ⟨128 * (t.val % 2) + (y 2).val, place ⟨t.val % 2, by omega⟩ (y 2)⟩ rfl).trans ?_)
  unfold byBlock8
  blk_ext [idx t]

/-! ## The last reshapes -/

/-- The reshape of the one-wide array reads a prototype at its block and place. -/
theorem flat4 (x : FVec Ideal S4x2x128x1 .f32) (b : Fin 4) (P : Fin 256) : shapeCast S4x256 x shapeCasts_S4x2x128x1_S4x256 (ix2 b P)
    = x (ix4 b (⟨P.val / 128, by omega⟩ : Fin 2) (⟨P.val % 128, by omega⟩ : Fin 128) 0) := by
  pointwise
/-- So does the reshape of the eight-wide one. -/
theorem flat6 (x : FVec Ideal S4x2x128x8 .f32) (b : Fin 4) (P : Fin 256) (q : Fin 8) : shapeCast S4x256x8 x shapeCasts_S4x2x128x8_S4x256x8 (ix3 b P q)
    = x (ix4 b (⟨P.val / 128, by omega⟩ : Fin 2) (⟨P.val % 128, by omega⟩ : Fin 128) q) := by
  pointwise

/-- The arrays the region ends with, read back from the memory after it. -/
theorem arr_inj : Function.Injective (Pipeline.arrRef spec0) := launch0.win.arr_inj

/-- The reshape of the layout by blocks is the array laid out. -/
theorem unfold4 (G : FVec Ideal S4x256 .f32) : shapeCast S4x256 (byBlock G) shapeCasts_S4x2x128x1_S4x256 = G := by
  refine funext fun i => ?_
  rw [eq_ix2 i]
  refine (flat4 _ (i 0) (i 1)).trans ?_
  show G (ix2 (i 0) ⟨128 * ((i 1).val / 128) + (i 1).val % 128, _⟩) = _
  exact congrArg (fun P => G (ix2 (i 0) P)) (Fin.ext (Nat.div_add_mod (i 1).val 128))
/-- The same of the eight-wide layout. -/
theorem unfold6 (G : FVec Ideal S4x256x8 .f32) : shapeCast S4x256x8 (byBlock8 G) shapeCasts_S4x2x128x8_S4x256x8 = G := by
  refine funext fun i => ?_
  rw [eq_ix3 i]
  refine (flat6 _ (i 0) (i 1) (i 2)).trans ?_
  show G (ix3 (i 0) ⟨128 * ((i 1).val / 128) + (i 1).val % 128, _⟩ (i 2)) = _
  exact congrArg (fun P => G (ix3 (i 0) P (i 2))) (Fin.ext (Nat.div_add_mod (i 1).val 128))

/-- The host's last reshapes read the region's arrays. -/
theorem tail4 : Pipeline.afterTail₀ cfgs (dats m) 0 (V0 m) [hostOps1] c main_v4 = shapeCast S4x256 ((dats m 0 c).arrAt 4 (cfgs 0).N) shapeCasts_S4x2x128x1_S4x256 := by
  unfold Pipeline.afterTail₀
  show StableHlo.after hostOps1 _ _ = _
  after_results
  exact congrArg (fun x => shapeCast S4x256 x shapeCasts_S4x2x128x1_S4x256)
    (Pipeline.withArrays_arr spec0 arr_inj c (V0 m c) (fun w => (dats m 0 c).arrAt w (cfgs 0).N) 4)
/-- The same of the distances. -/
theorem tail5 : Pipeline.afterTail₀ cfgs (dats m) 0 (V0 m) [hostOps1] c main_v5 = shapeCast S4x256 ((dats m 0 c).arrAt 5 (cfgs 0).N) shapeCasts_S4x2x128x1_S4x256 := by
  unfold Pipeline.afterTail₀
  show StableHlo.after hostOps1 _ _ = _
  after_results
  exact congrArg (fun x => shapeCast S4x256 x shapeCasts_S4x2x128x1_S4x256)
    (Pipeline.withArrays_arr spec0 arr_inj c (V0 m c) (fun w => (dats m 0 c).arrAt w (cfgs 0).N) 5)
/-- The same of the event indices. -/
theorem tail6 : Pipeline.afterTail₀ cfgs (dats m) 0 (V0 m) [hostOps1] c main_v6 = shapeCast S4x256x8 ((dats m 0 c).arrAt 6 (cfgs 0).N) shapeCasts_S4x2x128x8_S4x256x8 := by
  unfold Pipeline.afterTail₀
  show StableHlo.after hostOps1 _ _ = _
  after_results
  exact congrArg (fun x => shapeCast S4x256x8 x shapeCasts_S4x2x128x8_S4x256x8)
    (Pipeline.withArrays_arr spec0 arr_inj c (V0 m c) (fun w => (dats m 0 c).arrAt w (cfgs 0).N) 6)

end Cert.MatchRun

end
-- ==== Proof.PreFacts.lean ====
module

public import proofs.«01_k».proof.Defs

@[expose] public section

/-! The shape facts of the precondition. -/

set_option maxRecDepth 16384

noncomputable section

namespace Cert.Match

open Idealize.ShloMosaic Idealize.SL.Sem

/-- The shapes of the precondition's operations fit. -/
theorem preFacts : Cert.Pre_mask_binary_no_zero_tie.Facts where
  reducesTo_S4x2048x768_S4x2048_d2 := by decide
  h_S_ := by decide
  bcast_S4x2048_S4x2048x1_0_1 := by decide
  bcast_S_S4x2048x1 := by decide
  bcast_S4x2048x1_S4x2048x768_0_1_2 := by decide
  reducesTo_S256x768x8_S256x8_d1 := by decide
  bcast_S256x8_S256x1x8_0_2 := by decide
  bcast_S_S256x1x8 := by decide
  bcast_S256x1x8_S256x768x8_0_1_2 := by decide
  transposes_S256x8x4x2048_S4x256x2048x8_2_0_3_1 := by decide
  bcast_S4x2048_S4x1x2048x1_0_2 := by decide
  bcast_S4x1x2048x1_S4x256x2048x8_0_1_2_3 := by decide
  bcast_S_S4x1x2048x1 := by decide
  reducesTo_S4x256x2048x8_S4x256x8_d2 := by decide
  bcast_S_S4x2048 := by decide
  reducesTo_S4x2048_S4_d1 := by decide
  bcast_S4_S4x1x1_0 := by decide
  bcast_S_S4x256x8 := by decide
  bcast_S4x1x1_S4x256x8_0_1_2 := by decide
  reducesTo_S4x2048_S_d0_1 := by decide
  reducesTo_S4x256x8_S_d0_1_2 := by decide
  dot_S256x768x8_S4x2048x768_S256x8x4x2048_1_2_02_01_n_n_wf := by decide

end Cert.Match
end
-- ==== Proof.PreHolds.lean ====
module

public import proofs.«01_k».proof.Proof.Meet
public import proofs.«01_k».proof.Proof.PreFacts
public import Idealize.ShloMosaic.Lib.ReduceAll

@[expose] public section

/-! What the precondition says of the mask and of the greatest similarities. -/

set_option maxRecDepth 16384

noncomputable section

namespace Cert.Match

open Cert.Pre_mask_binary_no_zero_tie
open Idealize.ShloMosaic Idealize.ShloMosaic.TcCoe Idealize.SL.Sem

/-- Both bits of an and that is set are set. -/
theorem andi_one (x y : BitVec 1) : IntOp.andi x y = 1#1 → x = 1#1 ∧ y = 1#1 := by revert x y; decide
/-- One of the bits of an or that is set is set. -/
theorem ori_one (x y : BitVec 1) : IntOp.ori x y = 1#1 → x = 1#1 ∨ y = 1#1 := by revert x y; decide

/-- The comparison "equal" holding. -/
theorem oeq_one (x y : EReal) (h : Ideal.cmp .oeq x y = 1#1) : x = y := by
  by_contra hne
  revert h
  simp [Ideal.cmp, hne]

/-- The comparison "unequal" holding. -/
theorem une_one (x y : EReal) (h : Ideal.cmp .une x y = 1#1) : x ≠ y := by
  rintro rfl
  revert h
  simp [Ideal.cmp]

attribute [local instance] Cert.Match.preFacts

/-- Entries that compare equal are equal. -/
theorem oeq_at {s : Shape} (x y : FVec Ideal s .f32) (i : s.Idx) (h : cmpf .oeq x y i = 1#1) : (x i : EReal) = y i := oeq_one _ _ h
/-- Entries that compare unequal are unequal. -/
theorem une_at {s : Shape} (x y : FVec Ideal s .f32) (i : s.Idx) (h : cmpf .une x y i = 1#1) : (x i : EReal) ≠ y i := une_one _ _ h

/-- The greatest entry along the events' axis. -/
theorem top_at (v : FVec Ideal S4x256x2048x8 .f32) (b : Fin 4) (p : Fin 256) (n : Fin 8) :
    (Host.reduce (FloatOps.maximumf (F := Ideal) (φ := .f32)) v (constant S_ .f32 0xFF800000#32 : FVec Ideal S_ .f32) Facts.reducesTo_S4x256x2048x8_S4x256x8_d2 Facts.h_S_ : FVec Ideal S4x256x8 .f32) (ix3 b p n)
      = (rowMax fun t => v (ix4 b p t n) : EReal) := by
  unfold rowMax
  rw [← ofBits_bot]
  pointwise

/-- The spread constant zero is zero at every place. -/
theorem zero_at (b : Fin 4) (p : Fin 256) (n : Fin 8) :
    (broadcastInDim S4x256x8 ![] Facts.bcast_S_S4x256x8 (constant S_ .f32 0x00000000#32 : FVec Ideal S_ .f32) : FVec Ideal S4x256x8 .f32) (ix3 b p n) = (0 : EReal) := by
  pointwise

/-- A batch's bit spread over its prototypes and segments. -/
theorem spread_at (x : IVec S4 1) (b : Fin 4) (p : Fin 256) (n : Fin 8) :
    broadcastInDim S4x256x8 ![0, 1, 2] Facts.bcast_S4x1x1_S4x256x8_0_1_2 (broadcastInDim S4x1x1 ![0] Facts.bcast_S4_S4x1x1_0 x) (ix3 b p n) = x (ix1 b) := by
  pointwise

instance : Subsingleton S_.Idx := ⟨fun a b => funext fun k => k.elim0⟩

/-- The mask's entries are zeros and ones, and each batch's mask is all ones or no greatest similarity is zero. -/
theorem part1_holds (a1 : FVec Ideal S4x2048 .f32) (v14 v19 : FVec Ideal S4x256x2048x8 .f32)
    (h : fn_part1 (F := Ideal) a1 v14 v19 = fun _ => 1#1) :
    (∀ b t, (a1 (ix2 b t) : EReal) = 0 ∨ (a1 (ix2 b t) : EReal) = 1)
      ∧ ∀ b, (∀ t, (a1 (ix2 b t) : EReal) = 1) ∨ ∀ p n, rowMax (fun t => (addf v14 v19 (ix4 b p t n) : EReal)) ≠ 0 := by
  have h' := congrFun h ix0
  unfold fn_part1 fn_part2 at h'
  obtain ⟨h1, h2⟩ := andi_one _ _ h'
  have hA := fun i => ori_one _ _ (Host.reduce_andi_all _ _ _ _ _ h1 i)
  have hB := fun i => ori_one _ _ (Host.reduce_andi_all _ _ _ _ _ h2 i)
  refine ⟨fun b t => ?_, fun b => ?_⟩
  · refine (hA (ix2 b t)).imp (fun e => ?_) fun e => ?_
    · refine (oeq_one _ _ e).trans ?_
      pointwise
    · refine (oeq_one _ _ e).trans ?_
      pointwise
  · by_cases hx : ∀ t, (a1 (ix2 b t) : EReal) = 1
    · exact Or.inl hx
    refine Or.inr fun p n => ?_
    rcases hB (ix3 b p n) with e | e
    · refine absurd (fun t => ?_) hx
      have e2 := Host.reduce_andi_eq_one _ _ _ _ _ ((spread_at _ b p n).symm.trans e) (ix2 b t) (funext fun a => match a with | ⟨0, _⟩ => rfl)
      refine (oeq_one _ _ e2).trans ?_
      pointwise
    · have e2 := une_at _ _ _ e
      exact fun e3 => e2 (((top_at _ b p n).trans e3).trans (zero_at b p n).symm)

/-- The same of the whole precondition, over the reference's similarities. -/
theorem pre_holds (a0 : FVec Ideal S4x2048x768 .f32) (a1 : FVec Ideal S4x2048 .f32) (a2 : FVec Ideal S256x768x8 .f32) (a3 : FVec Ideal S1x1x8 .f32)
    (h : fn (F := Ideal) a0 a1 a2 a3 = fun _ => 1#1) :
    (∀ b t, (a1 (ix2 b t) : EReal) = 0 ∨ (a1 (ix2 b t) : EReal) = 1)
      ∧ ∀ b, (∀ t, (a1 (ix2 b t) : EReal) = 1)
        ∨ ∀ p n, rowMax (fun t => (Cert.ReferenceIdeal.Step.A_main_v20 (F := Ideal) a0 a1 a2 (ix4 b p t n) : EReal)) ≠ 0 :=
  part1_holds a1 (Cert.ReferenceIdeal.Step.A_main_v14 (F := Ideal) a0 a1 a2) (Cert.ReferenceIdeal.Step.A_main_v19 (F := Ideal) a0 a1 a2) h

end Cert.Match

end
-- ==== Proof.Frames.lean ====
module

public import proofs.«01_k».proof.Defs
public import proofs.«01_k».proof.Proof.KernelRun
public import proofs.«01_k».proof.Proof.Gen.ReferenceIdeal.StepRun
public import proofs.«01_k».proof.Proof.Gen.Kernel
public import Idealize.ShloMosaic.Lib.Claim

@[expose] public section

/-!
The claims that say that a program runs, leaves its arguments alone and ends with
every semaphore at zero.
-/

set_option maxRecDepth 16384

noncomputable section

namespace Cert.Match

open Idealize.ShloMosaic Idealize.SL.Sem

/-- No operation is rewritten on the way to the ideal program: the two programs have the same body, -/
theorem body_same {F : FTy → Type} [FloatOps F] :
    @Cert.Kernel.cc0__matcher_kernel F _ _ = @Cert.KernelIdeal.cc0__matcher_kernel F _ _ := rfl

/-- the same table of bodies, -/
theorem table_same {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))

/-- the same table of regions, -/
theorem defs_same {F : FTy → Type} [FloatOps F] : Cert.Kernel.defs (F := F) = Cert.KernelIdeal.defs (F := F) :=
  congrArg (Pipeline.defs Cert.Kernel.pcfgs) table_same

/-- and the same host program. -/
theorem main_same {F : FTy → Type} [FloatOps F] : Cert.Kernel.main (F := F) = Cert.KernelIdeal.main (F := F) := rfl

/-- The kernel as compiled runs and leaves its arguments alone. -/
theorem kernel_frame : Cert.quiescent_Kernel := fun m ρ _ => by
  have h := Cert.MatchRun.frame_run (F := Bits) m ρ
  rw [← defs_same, ← main_same] at h
  exact h

/-- The kernel over the extended reals runs and leaves its arguments alone. -/
theorem kernelIdeal_frame : Cert.quiescent_KernelIdeal := fun m ρ _ => Cert.MatchRun.frame_run m ρ

/-- The reference over the extended reals runs and leaves its arguments alone; it declares no semaphore. -/
theorem referenceIdeal_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Match
end
-- ==== Proof.Value.lean ====
module

public import proofs.«01_k».proof.Proof.KernelFinal
public import proofs.«01_k».proof.Proof.PreHolds
public import proofs.«01_k».proof.Proof.Frames
public import proofs.«01_k».proof.Defs

@[expose] public section

/-!
The value claim: from the same arguments, satisfying the precondition, the kernel and
the reference end with the same three results.
-/

set_option maxRecDepth 16384

noncomputable section

namespace Cert.MatchRun

open Cert.KernelIdeal Cert.KernelIdeal.Gen
open Idealize.ShloMosaic Idealize.ShloMosaic.TcCoe Idealize.SL.Sem Cert.Match
open Cert.MatchRef (DRef rest_at)
open Cert.ReferenceIdeal.Step (State step init R_main_v33_2 R_main_v52 R_main_v54)

attribute [local instance] Cert.Match.preFacts

variable (m : (ℓ : Loc nD τ sig) → Buf (Elt Ideal) ℓ)

/-- The states of the reference's loop on the kernel's arguments: the state before it and after each turn. -/
def states (c : Dev nD) : ℕ → State Ideal
  | 0 => init (F := Ideal) (in0 m c) (in1 m c) (in2 m c)
  | n + 1 => step n (states c n)

/-- The precondition, over the reference's similarities. -/
theorem tie (c : Dev nD) (hp : Cert.Pre_mask_binary_no_zero_tie.fn (F := Ideal) (in0 m c) (in1 m c) (in2 m c) (in3 m c) = fun _ => 1#1) (b : Fin 4) :
    (∀ s : Fin 2048, (in1 m c (ix2 b s) : EReal) = 1) ∨ ∀ (P : Fin 256) (n : Fin 8), rowMax (DRef (states m c) b P n) ≠ 0 :=
  ((pre_holds (in0 m c) (in1 m c) (in2 m c) (in3 m c) hp).2 b).imp id fun h P n => h P n

/-- The kernel ends with the reference's three results of its arguments, and its arguments unchanged. -/
theorem value_run (ρ : Dev nD → PrngReg)
    (hp : ∀ c : Dev nD, Cert.Pre_mask_binary_no_zero_tie.fn (F := Ideal) (in0 m c) (in1 m c) (in2 m c) (in3 m c) = fun _ => 1#1) :
    θ_run (defs (F := Ideal)) (onTc (τ := τ) (main (F := Ideal))) ⟨m, fun _ => 0, ρ⟩ (fun r => ∀ c : Dev nD,
      r.2.mem ((c.tc : Thread nD τ).loc main_v4) = R_main_v52 (states m c 8) (in3 m c)
      ∧ r.2.mem ((c.tc : Thread nD τ).loc main_v5) = R_main_v54 (states m c 8) (in3 m c)
      ∧ r.2.mem ((c.tc : Thread nD τ).loc main_v6) = R_main_v33_2 (states m c 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (launch_run m ρ) (frame_run m ρ))
  have h1 := (pre_holds (in0 m c) (in1 m c) (in2 m c) (in3 m c) (hp c)).1
  have h2 := tie m c (hp c)
  have act := act_ref m (states m c) c rfl (fun _ => rfl) h1 h2
  have inx := idx_ref m (states m c) c rfl (fun _ => rfl) h1 h2
  have rest := fun ref hs ha => (h.1.1 c).2 ref (Pipeline.mem_restRefs_of ref hs ha)
  refine ⟨(rest main_v4 (by decide) (by decide)).trans ((tail4 m c).trans ?_),
    (rest main_v5 (by decide) (by decide)).trans ((tail5 m c).trans ?_),
    (rest main_v6 (by decide) (by decide)).trans ((tail6 m c).trans ?_), h.2.1 c⟩
  · rw [final4 m c (R_main_v52 (states m c 8) (in3 m c)) fun t p b hb P hP => act t p b hb P hP]
    exact unfold4 _
  · rw [final5 m c (R_main_v54 (states m c 8) (in3 m c)) fun t p b hb P hP =>
      (congrArg (fun x : EReal => Ideal.ofBits .f32 0x41000000#32 - x) (act t p b hb P hP)).trans (rest_at (states m c 8) b P (in3 m c)).symm]
    exact unfold4 _
  · rw [final6 m c (R_main_v33_2 (states m c 8)) fun t p q b hb P hP => inx t p q b hb P hP]
    exact unfold6 _

end Cert.MatchRun

namespace Cert.Match

open Idealize.ShloMosaic Idealize.SL.Sem

attribute [local instance] Cert.Match.preFacts

/-- The kernel's frame under the precondition. -/
theorem kernelIdeal_frame_pre : Cert.quiescent_KernelIdeal_pre_mask_binary_no_zero_tie := fun m ρ _ => kernelIdeal_frame m ρ trivial

/-- The reference's frame under the precondition. -/
theorem referenceIdeal_frame_pre : Cert.quiescent_ReferenceIdeal_pre_mask_binary_no_zero_tie := fun m ρ _ => referenceIdeal_frame m ρ trivial

/-- THE VALUE CLAIM: the kernel and the reference end with the same results. -/
theorem value : Cert.algebraic_KernelIdeal_ReferenceIdeal_pre_mask_binary_no_zero_tie := by
  intro m g m' g' hp hm
  have hr := Cert.ReferenceIdeal.StepRun.run_iter (F := Ideal) m' g' (Cert.MatchRun.states m)
    (fun c => by
      obtain ⟨e0, e1, e2, _⟩ := hm c
      show Cert.ReferenceIdeal.Step.init _ _ _ = Cert.ReferenceIdeal.Step.init _ _ _
      rw [e0, e1, e2])
    (fun _ _ => rfl)
  refine ⟨_, _, _, Cert.MatchRun.value_run m g hp, (θ_run Cert.ReferenceIdeal.defs _ _).mono (fun r h c => ?_) hr⟩
  have e3 := (hm c).2.2.2
  refine ⟨(h c).1.trans ?_, (h c).2.1.trans ?_, (h c).2.2⟩
  · exact congrArg _ e3
  · exact congrArg _ e3

end Cert.Match
end
-- ==== Proof.lean ====
module

public import proofs.«01_k».proof.Proof.Value
public import Idealize.ShloMosaic.Adequacy
public import Idealize.ShloMosaic.Init

@[expose] public section

noncomputable section

namespace Cert.Proof

open Idealize.ShloMosaic Idealize.SL.Sem Cert.Kernel

/-- The claim: the frames, that the kernel's idealised program is the kernel's, and that kernel and reference end with the same results. -/
theorem claim : Cert.Claim :=
  ⟨Cert.Kernel.Gen.facts, Cert.KernelIdeal.Gen.facts, Cert.ReferenceIdeal.Gen.facts, Cert.Match.preFacts,
    Cert.Match.kernel_frame, Cert.Match.kernelIdeal_frame, Cert.Match.kernelIdeal_frame_pre,
    Cert.Match.referenceIdeal_frame, Cert.Match.referenceIdeal_frame_pre, trivial, Cert.Match.value⟩

end Cert.Proof

end
